-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "decay" .f32 0x3F7851EC#32 ((97 / 100 : ℝ) : EReal)
  ∧ IdealRules.named_const.Statement Cert.KernelIdeal.κ "inv_l1_eps" .f32 0x5368D4A5#32 ((2305843009213693952 / 2305843 : ℝ) : EReal)
  ∧ IdealRules.named_const.Statement Cert.KernelIdeal.κ "log_decay" .f32 0xBCF98597#32 ((Real.log (97 / 100) : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x256 : Shape := ⟨3, ![8, 256, 256]⟩
abbrev S256x1024 : Shape := ⟨2, ![256, 1024]⟩
abbrev S1024x256 : Shape := ⟨2, ![1024, 256]⟩
abbrev S_ : Shape := ⟨0, ![]⟩

class Facts : Prop where
  bcast_S_S8x256x256 : S_.BroadcastsInDim S8x256x256 (![] : Fin 0 → Fin S8x256x256.rank)
  bcast_S_S256x1024 : S_.BroadcastsInDim S256x1024 (![] : Fin 0 → Fin S256x1024.rank)
  bcast_S_S1024x256 : S_.BroadcastsInDim S1024x256 (![] : Fin 0 → Fin S1024x256.rank)

variable [Facts]

def fn {F : FTy → Type} [FloatOps F] (main_arg0 : FVec F S8x256x256 .f32) (main_arg1 : FVec F S256x1024 .f32) (main_arg2 : FVec F S1024x256 .f32) (main_arg3 : FVec F S1024x256 .f32) : IVec S8x256x256 1 × IVec S256x1024 1 × IVec S1024x256 1 × IVec S1024x256 1 :=
  let main_v0 : FVec F S8x256x256 .f32 := Host.absf main_arg0
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1024x256 .f32 := Host.absf main_arg2
  let main_cst_1 : FVec F S_ .f32 := constant S_ .f32 0x7F800000#32
  let main_v7 : FVec F S1024x256 .f32 := broadcastInDim S1024x256 ![] bcast_S_S1024x256 main_cst_1
  let main_v8 : IVec S1024x256 1 := cmpf .olt main_v6 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  (main_v2, main_v5, main_v8, main_v11)
-- ==== Kernel.lean ====
abbrev S8x256x256 : Shape := ⟨3, ![8, 256, 256]⟩
abbrev S256x1024 : Shape := ⟨2, ![256, 1024]⟩
abbrev S1024x256 : Shape := ⟨2, ![1024, 256]⟩
abbrev S2048x256 : Shape := ⟨2, ![2048, 256]⟩
abbrev S5120x256 : Shape := ⟨2, ![5120, 256]⟩
abbrev S2048x1024 : Shape := ⟨2, ![2048, 1024]⟩
abbrev S256x128 : Shape := ⟨2, ![256, 128]⟩
abbrev S256 : Shape := ⟨1, ![256]⟩
abbrev S256x1 : Shape := ⟨2, ![256, 1]⟩
abbrev S256x8 : Shape := ⟨2, ![256, 8]⟩
abbrev S1x128 : Shape := ⟨2, ![1, 128]⟩
abbrev S8x128 : Shape := ⟨2, ![8, 128]⟩
abbrev S256x256 : Shape := ⟨2, ![256, 256]⟩
abbrev S128x256 : Shape := ⟨2, ![128, 256]⟩
abbrev S1x256 : Shape := ⟨2, ![1, 256]⟩
abbrev S1x256x256 : Shape := ⟨3, ![1, 256, 256]⟩
abbrev S2048 : Shape := ⟨1, ![2048]⟩
abbrev S2048x1 : Shape := ⟨2, ![2048, 1]⟩

abbrev nBuf : Space → Nat
  | .hbm => 8
  | .vmem => 5
  | .smem => 0
  | _ => 0

abbrev bufTy : (tb : Table) → Fin (tcTables nBuf tb) → BufTy
  | .hbm, ⟨0, _⟩ => ⟨S8x256x256, .f32⟩
  | .hbm, ⟨1, _⟩ => ⟨S256x1024, .f32⟩
  | .hbm, ⟨2, _⟩ => ⟨S1024x256, .f32⟩
  | .hbm, ⟨3, _⟩ => ⟨S1024x256, .f32⟩
  | .hbm, ⟨4, _⟩ => ⟨S2048x256, .f32⟩
  | .hbm, ⟨5, _⟩ => ⟨S1024x256, .f32⟩
  | .hbm, ⟨6, _⟩ => ⟨S5120x256, .f32⟩
  | .hbm, ⟨7, _⟩ => ⟨S8x256x256, .f32⟩
  | .local _ .vmem, ⟨0, _⟩ => ⟨S5120x256, .f32⟩
  | .local _ .vmem, ⟨1, _⟩ => ⟨S8x256x256, .f32⟩
  | .local _ .vmem, ⟨2, _⟩ => ⟨S2048x1024, .f32⟩
  | .local _ .vmem, ⟨3, _⟩ => ⟨S256x128, .f32⟩
  | .local _ .vmem, ⟨4, _⟩ => ⟨S256x128, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v44 : BitVec 32 := Scalar.addi c0_i32 c32_i32
  let c1_i32 : BitVec 32 := 1#32
  ⟨c0_i32, v44, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v444 : BitVec 32 := Scalar.muli arg6 c8_i32
  v444
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v444 : BitVec 32 := Scalar.muli arg6 c8_i32
  let v445 : BitVec 32 := v444
  let v446 : Index := Scalar.indexCast v445
  let c0_169 : Index := 0#32
  ![v446.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S5120x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "decay" => some ((97 / 100 : ℝ) : EReal)
  | "inv_l1_eps" => some ((2305843009213693952 / 2305843 : ℝ) : EReal)
  | "log_decay" => some ((Real.log (97 / 100) : ℝ) : EReal)
  | "mask" => some ⊥
  | _ => none
-- ==== ReferenceIdeal.lean ====
abbrev S8x256x256 : Shape := ⟨3, ![8, 256, 256]⟩
abbrev S256x1024 : Shape := ⟨2, ![256, 1024]⟩
abbrev S1024x256 : Shape := ⟨2, ![1024, 256]⟩
abbrev S_ : Shape := ⟨0, ![]⟩
abbrev S8x1024 : Shape := ⟨2, ![8, 1024]⟩
abbrev S8x256x1024 : Shape := ⟨3, ![8, 256, 1024]⟩
abbrev S256x8x256 : Shape := ⟨3, ![256, 8, 256]⟩
abbrev S1x8x256 : Shape := ⟨3, ![1, 8, 256]⟩
abbrev S8x256 : Shape := ⟨2, ![8, 256]⟩
abbrev S8 : Shape := ⟨1, ![8]⟩
abbrev S8x1 : Shape := ⟨2, ![8, 1]⟩
abbrev S8x256x1 : Shape := ⟨3, ![8, 256, 1]⟩
abbrev S8x1x1024 : Shape := ⟨3, ![8, 1, 1024]⟩

abbrev nBuf : Space → Nat
  | .hbm => 143
  | .vmem => 0
  | .smem => 0
  | _ => 0

abbrev hbmTy0_0 (i : Nat) : BufTy := match i % 128 with
  | 0 => ⟨S8x256x256, .f32⟩
  | 1 => ⟨S256x1024, .f32⟩
  | 2 => ⟨S1024x256, .f32⟩
  | 3 => ⟨S1024x256, .f32⟩
  | 4 => ⟨S_, .f32⟩
  | 5 => ⟨S_, .f32⟩
  | 6 => ⟨S_, .f32⟩
  | 7 => ⟨S_, .f32⟩
  | 8 => ⟨S8x1024, .f32⟩
  | 9 => ⟨S_, .f32⟩
  | 10 => ⟨S8x256x1024, .f32⟩
  | 11 => ⟨S256x8x256, .f32⟩
  | 12 => ⟨S_, .f32⟩
  | 13 => ⟨S256x8x256, .f32⟩
  | 14 => ⟨S_, .i32⟩
  | 15 => ⟨S256x8x256, .f32⟩
  | 16 => ⟨S1024x256, .f32⟩
  | 17 => ⟨S_, .f32⟩
  | 18 => ⟨S1024x256, .f32⟩
  | 19 => ⟨S256x1024, .f32⟩
  | 20 => ⟨S_, .i32⟩
  | 21 => ⟨S8x1024, .f32⟩
  | 22 => ⟨S8x256x1024, .f32⟩
  | 23 => ⟨S256x8x256, .f32⟩
  | 24 => ⟨S_, .i32⟩
  | 25 => ⟨S_, .i1⟩
  | 26 => ⟨S_, .i32⟩
  | 27 => ⟨S_, .i32⟩
  | 28 => ⟨S1x8x256, .f32⟩
  | 29 => ⟨S8x256, .f32⟩
  | 30 => ⟨S256x1024, .f32⟩
  | 31 => ⟨S8x1024, .f32⟩
  | 32 => ⟨S_, .f32⟩
  | 33 => ⟨S8x1024, .f32⟩
  | 34 => ⟨S8x1024, .f32⟩
  | 35 => ⟨S8x1024, .f32⟩
  | 36 => ⟨S8x1024, .f32⟩
  | 37 => ⟨S8x1024, .f32⟩
  | 38 => ⟨S8x1024, .f32⟩
  | 39 => ⟨S_, .f32⟩
  | 40 => ⟨S8, .f32⟩
  | 41 => ⟨S8x1, .f32⟩
  | 42 => ⟨S_, .f32⟩
  | 43 => ⟨S8x1, .f32⟩
  | 44 => ⟨S8x1, .f32⟩
  | 45 => ⟨S8x1024, .f32⟩
  | 46 => ⟨S8x1024, .f32⟩
  | 47 => ⟨S8x256, .f32⟩
  | 48 => ⟨S_, .f32⟩
  | 49 => ⟨S8, .f32⟩
  | 50 => ⟨S8x1, .f32⟩
  | 51 => ⟨S_, .f32⟩
  | 52 => ⟨S8x1, .f32⟩
  | 53 => ⟨S8x1, .f32⟩
  | 54 => ⟨S8x256, .f32⟩
  | 55 => ⟨S8x256, .f32⟩
  | 56 => ⟨S8x256, .f32⟩
  | 57 => ⟨S_, .f32⟩
  | 58 => ⟨S8, .f32⟩
  | 59 => ⟨S8x1, .f32⟩
  | 60 => ⟨S_, .f32⟩
  | 61 => ⟨S8x1, .f32⟩
  | 62 => ⟨S8x1, .f32⟩
  | 63 => ⟨S8x256, .f32⟩
  | 64 => ⟨S8x256, .f32⟩
  | 65 => ⟨S_, .f32⟩
  | 66 => ⟨S8x1, .f32⟩
  | 67 => ⟨S8x1, .f32⟩
  | 68 => ⟨S8x1, .f32⟩
  | 69 => ⟨S8x256, .f32⟩
  | 70 => ⟨S8x256, .f32⟩
  | 71 => ⟨S256x1024, .f32⟩
  | 72 => ⟨S8x1024, .f32⟩
  | 73 => ⟨S_, .f32⟩
  | 74 => ⟨S8x1024, .f32⟩
  | 75 => ⟨S8x1024, .f32⟩
  | 76 => ⟨S_, .f32⟩
  | 77 => ⟨S8x1024, .f32⟩
  | 78 => ⟨S8x1024, .f32⟩
  | 79 => ⟨S8x1024, .f32⟩
  | 80 => ⟨S1024x256, .f32⟩
  | 81 => ⟨S8x256, .f32⟩
  | 82 => ⟨S_, .f32⟩
  | 83 => ⟨S8, .f32⟩
  | 84 => ⟨S8x1, .f32⟩
  | 85 => ⟨S_, .f32⟩
  | 86 => ⟨S8x1, .f32⟩
  | 87 => ⟨S8x1, .f32⟩
  | 88 => ⟨S8x256, .f32⟩
  | 89 => ⟨S8x256, .f32⟩
  | 90 => ⟨S8x256, .f32⟩
  | 91 => ⟨S_, .f32⟩
  | 92 => ⟨S8, .f32⟩
  | 93 => ⟨S8x1, .f32⟩
  | 94 => ⟨S_, .f32⟩
  | 95 => ⟨S8x1, .f32⟩
  | 96 => ⟨S8x1, .f32⟩
  | 97 => ⟨S8x256, .f32⟩
  | 98 => ⟨S8x256, .f32⟩
  | 99 => ⟨S_, .f32⟩
  | 100 => ⟨S8x1, .f32⟩
  | 101 => ⟨S8x1, .f32⟩
  | 102 => ⟨S8x1, .f32⟩
  | 103 => ⟨S8x256, .f32⟩
  | 104 => ⟨S8x256, .f32⟩
  | 105 => ⟨S8x256x1024, .f32⟩
  | 106 => ⟨S8x256x1024, .f32⟩
  | 107 => ⟨S_, .f32⟩
  | 108 => ⟨S8, .f32⟩
  | 109 => ⟨S8x1, .f32⟩
  | 110 => ⟨S_, .f32⟩
  | 111 => ⟨S8x1, .f32⟩
  | 112 => ⟨S8x1, .f32⟩
  | 113 => ⟨S8x256, .f32⟩
  | 114 => ⟨S8x256, .f32⟩
  | 115 => ⟨S8x256, .f32⟩
  | 116 => ⟨S_, .f32⟩
  | 117 => ⟨S8, .f32⟩
  | 118 => ⟨S8x1, .f32⟩
  | 119 => ⟨S_, .f32⟩
  | 120 => ⟨S8x1, .f32⟩
  | 121 => ⟨S8x1, .f32⟩
  | 122 => ⟨S8x256, .f32⟩
  | 123 => ⟨S8x256, .f32⟩
  | 124 => ⟨S_, .f32⟩
  | 125 => ⟨S8x1, .f32⟩
  | 126 => ⟨S8x1, .f32⟩
  | 127 => ⟨S8x1, .f32⟩
  | _ => ⟨S8x256x256, .f32⟩

abbrev hbmTy0_1 (i : Nat) : BufTy := match i % 128 with
  | 0 => ⟨S8x256, .f32⟩
  | 1 => ⟨S8x256, .f32⟩
  | 2 => ⟨S8x256x1, .f32⟩
  | 3 => ⟨S8x1x1024, .f32⟩
  | 4 => ⟨S8x256x1024, .f32⟩
  | 5 => ⟨S8x256x1024, .f32⟩
  | 6 => ⟨S8x256x1024, .f32⟩
  | 7 => ⟨S8x256x1024, .f32⟩
  | 8 => ⟨S1x8x256, .f32⟩
  | 9 => ⟨S_, .i32⟩
  | 10 => ⟨S_, .i32⟩
  | 11 => ⟨S256x8x256, .f32⟩
  | 12 => ⟨S_, .i32⟩
  | 13 => ⟨S_, .i32⟩
  | 14 => ⟨S8x256x256, .f32⟩
  | _ => ⟨S8x256x256, .f32⟩

abbrev hbmTy (i : Nat) : BufTy := match i / 128 with
  | 0 => hbmTy0_0 i
  | 1 => hbmTy0_1 i
  | _ => ⟨S8x256x256, .f32⟩

abbrev bufTy : (tb : Table) → Fin (tcTables nBuf tb) → BufTy
  | .hbm, ⟨i, _⟩ => hbmTy i
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_cst_3 : Ref sig .tc := ⟨.hbm, 12, rfl⟩
abbrev main_v4 : Ref sig .tc := ⟨.hbm, 13, rfl⟩
abbrev main_c : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev main_while0c_c_12 : Ref sig .tc := ⟨.hbm, 24, rfl⟩
abbrev main_while0c_v7 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_v0 : Ref sig .tc := ⟨.hbm, 28, rfl⟩
abbrev main_while0b_v7 : Ref sig .tc := ⟨.hbm, 29, rfl⟩
abbrev main_while0b_v8 : Ref sig .tc := ⟨.hbm, 30, rfl⟩
abbrev main_while0b_v9 : Ref sig .tc := ⟨.hbm, 31, rfl⟩
abbrev main_while0b_call1_cst : Ref sig .tc := ⟨.hbm, 32, rfl⟩
abbrev main_while0b_call1_v0 : Ref sig .tc := ⟨.hbm, 33, rfl⟩
abbrev main_while0b_v10 : Ref sig .tc := ⟨.hbm, 34, rfl⟩
abbrev main_while0b_v11 : Ref sig .tc := ⟨.hbm, 35, rfl⟩
abbrev main_while0b_v12 : Ref sig .tc := ⟨.hbm, 36, rfl⟩
abbrev main_while0b_v13 : Ref sig .tc := ⟨.hbm, 37, rfl⟩
abbrev main_while0b_v14 : Ref sig .tc := ⟨.hbm, 38, rfl⟩
abbrev main_while0b_cst_12 : Ref sig .tc := ⟨.hbm, 39, rfl⟩
abbrev main_while0b_v15 : Ref sig .tc := ⟨.hbm, 40, rfl⟩
abbrev main_while0b_v16 : Ref sig .tc := ⟨.hbm, 41, rfl⟩
abbrev main_while0b_cst_13 : Ref sig .tc := ⟨.hbm, 42, rfl⟩
abbrev main_while0b_v17 : Ref sig .tc := ⟨.hbm, 43, rfl⟩
abbrev main_while0b_v18 : Ref sig .tc := ⟨.hbm, 44, rfl⟩
abbrev main_while0b_v19 : Ref sig .tc := ⟨.hbm, 45, rfl⟩
abbrev main_while0b_v20 : Ref sig .tc := ⟨.hbm, 46, rfl⟩
abbrev main_while0b_v21 : Ref sig .tc := ⟨.hbm, 47, rfl⟩
abbrev main_while0b_cst_14 : Ref sig .tc := ⟨.hbm, 48, rfl⟩
abbrev main_while0b_v22 : Ref sig .tc := ⟨.hbm, 49, rfl⟩
abbrev main_while0b_v23 : Ref sig .tc := ⟨.hbm, 50, rfl⟩
abbrev main_while0b_cst_15 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_v27 : Ref sig .tc := ⟨.hbm, 55, rfl⟩
abbrev main_while0b_v28 : Ref sig .tc := ⟨.hbm, 56, rfl⟩
abbrev main_while0b_cst_16 : Ref sig .tc := ⟨.hbm, 57, rfl⟩
abbrev main_while0b_v29 : Ref sig .tc := ⟨.hbm, 58, rfl⟩
abbrev main_while0b_v30 : Ref sig .tc := ⟨.hbm, 59, rfl⟩
abbrev main_while0b_cst_17 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_cst_18 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_call2_cst : Ref sig .tc := ⟨.hbm, 73, rfl⟩
abbrev main_while0b_call2_v0 : Ref sig .tc := ⟨.hbm, 74, rfl⟩
abbrev main_while0b_v42 : Ref sig .tc := ⟨.hbm, 75, rfl⟩
abbrev main_while0b_call3_cst : Ref sig .tc := ⟨.hbm, 76, rfl⟩
abbrev main_while0b_call3_v0 : Ref sig .tc := ⟨.hbm, 77, rfl⟩
abbrev main_while0b_v43 : Ref sig .tc := ⟨.hbm, 78, rfl⟩
abbrev main_while0b_v44 : Ref sig .tc := ⟨.hbm, 79, rfl⟩
abbrev main_while0b_v45 : Ref sig .tc := ⟨.hbm, 80, rfl⟩
abbrev main_while0b_v46 : Ref sig .tc := ⟨.hbm, 81, rfl⟩
abbrev main_while0b_cst_19 : Ref sig .tc := ⟨.hbm, 82, rfl⟩
abbrev main_while0b_v47 : Ref sig .tc := ⟨.hbm, 83, rfl⟩
abbrev main_while0b_v48 : Ref sig .tc := ⟨.hbm, 84, rfl⟩
abbrev main_while0b_cst_20 : Ref sig .tc := ⟨.hbm, 85, rfl⟩
abbrev main_while0b_v49 : Ref sig .tc := ⟨.hbm, 86, rfl⟩
abbrev main_while0b_v50 : Ref sig .tc := ⟨.hbm, 87, rfl⟩
abbrev main_while0b_v51 : Ref sig .tc := ⟨.hbm, 88, rfl⟩
abbrev main_while0b_v52 : Ref sig .tc := ⟨.hbm, 89, rfl⟩
abbrev main_while0b_v53 : Ref sig .tc := ⟨.hbm, 90, rfl⟩
abbrev main_while0b_cst_21 : Ref sig .tc := ⟨.hbm, 91, rfl⟩
abbrev main_while0b_v54 : Ref sig .tc := ⟨.hbm, 92, rfl⟩
abbrev main_while0b_v55 : Ref sig .tc := ⟨.hbm, 93, rfl⟩
abbrev main_while0b_cst_22 : Ref sig .tc := ⟨.hbm, 94, rfl⟩
abbrev main_while0b_v56 : Ref sig .tc := ⟨.hbm, 95, rfl⟩
abbrev main_while0b_v57 : Ref sig .tc := ⟨.hbm, 96, rfl⟩
abbrev main_while0b_v58 : Ref sig .tc := ⟨.hbm, 97, rfl⟩
abbrev main_while0b_v59 : Ref sig .tc := ⟨.hbm, 98, rfl⟩
abbrev main_while0b_cst_23 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_v66 : Ref sig .tc := ⟨.hbm, 106, rfl⟩
abbrev main_while0b_cst_24 : Ref sig .tc := ⟨.hbm, 107, rfl⟩
abbrev main_while0b_v67 : Ref sig .tc := ⟨.hbm, 108, rfl⟩
abbrev main_while0b_v68 : Ref sig .tc := ⟨.hbm, 109, rfl⟩
abbrev main_while0b_cst_25 : Ref sig .tc := ⟨.hbm, 110, rfl⟩
abbrev main_while0b_v69 : Ref sig .tc := ⟨.hbm, 111, rfl⟩
abbrev main_while0b_v70 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_cst_26 : Ref sig .tc := ⟨.hbm, 116, rfl⟩
abbrev main_while0b_v74 : Ref sig .tc := ⟨.hbm, 117, rfl⟩
abbrev main_while0b_v75 : Ref sig .tc := ⟨.hbm, 118, rfl⟩
abbrev main_while0b_cst_27 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_cst_28 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_v91 : Ref sig .tc := ⟨.hbm, 139, rfl⟩
abbrev main_while0b_c_29 : Ref sig .tc := ⟨.hbm, 140, rfl⟩
abbrev main_while0b_v92 : Ref sig .tc := ⟨.hbm, 141, rfl⟩
abbrev main_v6 : Ref sig .tc := ⟨.hbm, 142, rfl⟩

abbrev nD : Nat := 1
abbrev τ : Topo := Topo.v7x

variable {F : FTy → Type} [FloatOps F]

abbrev main_while0_count : Scf.Loop 32 := ⟨0#32, 256#32, 1#32⟩
-- ==== Proof.KernelIdealBody.lean ====
/-
  The idealized kernel's one grid point run once (`kernelRun`, by the executor over the generated straight-line form and the generated
  loop instance), the relational proof data — the input's block left in place, the output held to what the run's stores leave, whatever
  the scratches held before — and the launch: every execution ends, the arguments as launched, every counter zero.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.DatRel
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (Dat BodyObligationRel)

variable {F : FTy → Type} [FloatOps F] [Named F]

local notation "𝕄" => MT nD τ sig Unit (Elt F) ℕ (UR sig nD τ) ℕ

/-! ## The body, run once -/

/-- What the core holds of a staging memref or a scratch buffer: the whole of it, at the contents `f`. -/
abbrev held (c : Dev nD) {S : Shape} (M : Memref sig .tc .vmem S .f32) (f : BufTy.Contents (Elt F) M.view.ty) : sProp 𝕄 :=
  M.view.loc (c : Thread nD τ) ↦[M.view.set]{fullShare} f

/-- The body's stores into its output, and its run: from the packed input at `p`, the output and the first scratch at anything and the
    other two scratches at `f4` and `f5`, the kernel runs to its return, leaving the input as it was, the output overwritten by
    the stores named in the first component and every scratch at some contents. -/
def kernelRun (c : Dev nD) (i : grid0.Coords) (arg1 : Memref sig .tc .vmem S5120x256 .f32) (harg1 : arg1.IsWhole)
    (arg2 : Memref sig .tc .vmem S8x256x256 .f32) (harg2 : arg2.IsWhole) (arg3 : Memref sig .tc .vmem S2048x1024 .f32) (harg3 : arg3.IsWhole)
    (arg4 : Memref sig .tc .vmem S256x128 .f32) (harg4 : arg4.IsWhole) (arg5 : Memref sig .tc .vmem S256x128 .f32) (harg5 : arg5.IsWhole)
    (p : BufTy.Contents (Elt F) arg1.view.ty) (f4 : BufTy.Contents (Elt F) arg4.view.ty) (f5 : BufTy.Contents (Elt F) arg5.view.ty) :
    { L : List (View.Piece (Elt F) S8x256x256 .f32) //
      ∀ (f2 : BufTy.Contents (Elt F) arg2.view.ty) (f3 : BufTy.Contents (Elt F) arg3.view.ty) (K : PUnit → sProp 𝕄),
        iprop(held c arg1 p ∗ held c arg2 f2 ∗ held c arg3 f3 ∗ held c arg4 f4 ∗ held c arg5 f5
            ∗ (iprop(held c arg1 p ∗ held c arg2 (arg2.view.writes (Elt F) f2 L) ∗ (∃ f, held c arg3 f) ∗ (∃ f, held c arg4 f)
                ∗ (∃ f, held c arg5 f)) -∗ K ⟨⟩))
          ⊢ wp frame (wpE (defs₀ (F := F)) Variants.none (c : Thread nD τ) none) Set.univ
              (cc0_bdh_fused (F := F) i arg1 harg1 arg2 harg2 arg3 harg3 arg4 harg4 arg5 harg5) K } := by
  refine ⟨?_, ?_⟩
  case refine_2 =>
    intro f2 f3 K
    simp only [cc0_bdh_fused_eq_skeleton]; unfold cc0_bdh_fused_skel held
    iintro ⟨H1, H2, H3, H4, H5, Hk⟩
    sl_exec
    sl_step
    iapply Hk
    isplitl [H1]; · iexact H1
    isplitl [H2]; · iexact H2
    isplitl [H3]; · iexists _; iexact H3
    isplitl [H4]; · iexists _; iexact H4
    iexists _; iexact H5

/-! ## The proof data -/

variable (m : (ℓ : Loc nD τ sig) → Buf (Elt F) ℓ) (ρ : Dev nD → PrngReg)

/-- The two staging memrefs at a point, as the pipeline passes them. -/
abbrev inM (t : Fin cfg0.N) : Memref sig .tc .vmem S5120x256 .f32 := win0_0.stage (cfg0.slots t 0)
abbrev outM (t : Fin cfg0.N) : Memref sig .tc .vmem S8x256x256 .f32 := win0_1.stage (cfg0.slots t 1)
theorem inM_whole (t : Fin cfg0.N) : (inM t).IsWhole := hstage0_0 ((cfg0.slots t 0).cast nbuf0_0)
theorem outM_whole (t : Fin cfg0.N) : (outM t).IsWhole := hstage0_1 ((cfg0.slots t 1).cast nbuf0_1)

/-- The stores into the output at point `t`, the packed input's buffer at `p` and the loop's scratches at `f4`, `f5`. -/
def outStores (c : Dev nD) (t : Fin cfg0.N) (p : BufTy.Contents (Elt F) (inM t).view.ty)
    (f4 : BufTy.Contents (Elt F) (Memref.whole cc0_scratch1).view.ty) (f5 : BufTy.Contents (Elt F) (Memref.whole cc0_scratch2).view.ty) :
    List (View.Piece (Elt F) S8x256x256 .f32) :=
  (kernelRun c (grid0.coords t) (inM t) (inM_whole t) (outM t) (outM_whole t) (Memref.whole cc0_scratch0) (Memref.isWhole_whole _)
    (Memref.whole cc0_scratch1) (Memref.isWhole_whole _) (Memref.whole cc0_scratch2) (Memref.isWhole_whole _) p f4 f5).1

/-- What the body may leave in the output's buffer at point `t`: what some earlier contents read as after those stores, the
    input's buffer holding its block and the scratches anything. -/
def Leaves (c : Dev nD) : (w : Fin cfg0.W) → (t : Fin cfg0.N) → ((cfg0.win w).block.Idx → Elt F (cfg0.win w).elt) → Prop
  | ⟨0, _⟩, _, _ => True
  | ⟨1, _⟩, t, X => ∃ p f2 f4 f5, (inM t).view.read (Elt F) p = iblk m c 0 t
      ∧ X = (outM t).view.read (Elt F) ((outM t).view.writes (Elt F) f2 (outStores c t p f4 f5))

/-- The output is held to `Leaves`, the input is exact. -/
def marked : Fin 2 → Bool := fun w => w == 1

/-- The proof data: the arrays as the region finds them, the input's block left in place, the output's contents unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Pipeline.Dat.unnamed (cfg := cfg0) ⟨1, by decide⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]

theorem before0 (c : Dev nD) (t : Fin cfg0.N) (d) : (dats m 0 c).before 0 t d = iblk m c 0 t :=
  before0_0_of m (dats m 0 c) (A_eq m c 0) (after0 m c) t d

theorem inv_eq (c : Dev nD) :
    (Pipeline.ΦA spec0 c : sProp 𝕄)
      = iprop((∃ f, held c (Memref.whole cc0_scratch0) f) ∗ (∃ f, held c (Memref.whole cc0_scratch1) f) ∗ (∃ f, held c (Memref.whole cc0_scratch2) f)
          ∗ (∃ r, prngReg c r)) := by
  unfold Pipeline.ΦA held
  rw [scopedRest0_eq]
  simp only [Memref.view_whole, View.set_whole]
  have assoc (P Q R : sProp 𝕄) : iprop((P ∗ Q) ∗ R) = iprop(P ∗ Q ∗ R) := equiv_iff.mp ⟨BI.sep_assoc, BI.sep_assoc'⟩
  rw [assoc, assoc]

/-! ## The body at the point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ Y, ⌜((dats m 0 c).toRRel marked (Leaves m c)).Finds 1 t Y⌝ ∗ owns (c : Thread nD τ) (outM t) fullShare Y))
def bodyPost (c : Dev nD) (t : Fin cfg0.N) : sProp 𝕄 :=
  iprop((dats m 0 c).Φ t.succ ∗ (dats m 0 c).owesAt () t.succ
    ∗ owns (c : Thread nD τ) (inM t) fullShare ((dats m 0 c).after 0 t)
    ∗ (∃ X, ⌜Leaves m c 1 t X⌝ ∗ owns (c : Thread nD τ) (outM t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq, after0]
  simp only [before0]
  unfold owns
  iintro ⟨⟨⟨%f3, H3⟩, ⟨%f4, H4⟩, ⟨%f5, H5⟩, Hg⟩, HO, ⟨%d, %p, %hp, H1⟩, ⟨%Y, %hY, %f2, %h2, H2⟩⟩
  iapply ((kernelRun c (grid0.coords t) (inM t) (inM_whole t) (outM t) (outM_whole t) (Memref.whole cc0_scratch0) (Memref.isWhole_whole _)
    (Memref.whole cc0_scratch1) (Memref.isWhole_whole _) (Memref.whole cc0_scratch2) (Memref.isWhole_whole _) p f4 f5).2 f2 f3 _)
  isplitl [H1]; · iexact H1
  isplitl [H2]; · iexact H2
  isplitl [H3]; · iexact H3
  isplitl [H4]; · iexact H4
  isplitl [H5]; · iexact H5
  iintro ⟨H1, H2, H3, H4, H5⟩
  isplitl [H3 H4 H5 Hg]
  · isplitl [H3]; · iexact H3
    isplitl [H4]; · iexact H4
    isplitl [H5]; · iexact H5
    iexact Hg
  isplitl [HO]; · iexact HO
  isplitl [H1]
  · iexists p; isplitr; · ipureintro; exact hp
    iexact H1
  iexists _
  isplitr
  · ipureintro
    exact ⟨p, f2, f4, f5, hp, rfl⟩
  iexists _; isplitr; swap; · iexact H2
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (Leaves m c) := fun t => by
  rw [bigSep_W0, bigSep_W0, defs₀_row]
  exact triple_restated (sound_body m c t) rfl .rfl fun _ => .rfl

/-! ## The launch -/

set_option backward.isDefEq.respectTransparency.types false in
/-- From any memory with zero counters every execution of @main ends, every buffer that is no window's array holds what the region
    found there, the output's array holds something the relation allows, and every counter is zero again. -/
theorem run_main :
    θ_run defs (onTc (τ := τ) (main (F := F))) (s₀ m ρ)
      (fun r => Pipeline.RDat.FramePost (cfgs 0) (fun c => (dats m 0 c).toRRel marked (Leaves m c)) (V m) r ∧ r.2.sem = fun _ => 0) :=
  Pipeline.RDat.θ_run_frame (Q' := _) cfgs (0 : Fin 1) launch0 defs₀ Variants.none (fun c => (dats m 0 c).toRRel marked (Leaves m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments end as launched: they are no window's arrays and no host operation before the region writes them. -/
theorem args_kept {r : PUnit × MemSt nD τ sig (Elt F)}
    (h : Pipeline.RDat.FramePost (cfgs 0) (fun c => (dats m 0 c).toRRel marked (Leaves m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have kept (b : Ref sig .tc) (h1) (h2) := (h c).2 b (Pipeline.mem_restRefs_of b h1 h2)
  ⟨(kept main_arg0 (by decide) (by decide)).trans (V_main_arg0 m c), (kept main_arg1 (by decide) (by decide)).trans (V_main_arg1 m c),
    (kept main_arg2 (by decide) (by decide)).trans (V_main_arg2 m c), (kept main_arg3 (by decide) (by decide)).trans (V_main_arg3 m c)⟩

end Cert.KernelIdeal.Hand

end
-- ==== Proof.Frames.lean ====
/-
  The frame claims at the mesh the programs are printed for, and the four named constants: the kernel at the machine's floats and at
  the extended reals from its launch (KernelBody.lean, KernelIdealBody.lean), the reference from its generated run — its program
  declares no semaphore, so there is no counter to account for.
-/
module

public import proofs.«01_k».proof.Defs
public import proofs.«01_k».proof.Proof.KernelBody
public import proofs.«01_k».proof.Proof.KernelIdealBody
public import proofs.«01_k».proof.Proof.Gen.ReferenceIdeal.Run
public import proofs.«01_k».proof.Proof.Gen.Pre_finite
public import Idealize.ShloMosaic.Lib.Quiescent

@[expose] public section

noncomputable section

namespace Cert.Proof

open Idealize.ShloMosaic Idealize.SL.Sem

theorem frame_kernel : Cert.quiescent_Kernel := fun m g _ =>
  (θ_run Cert.Kernel.defs _ _).mono (fun _ h => ⟨fun c => Cert.Kernel.Hand.args_kept m h.1 c, h.2⟩) (Cert.Kernel.Hand.run_main m g)

theorem frame_kernelIdeal : Cert.quiescent_KernelIdeal := fun m g _ =>
  (θ_run Cert.KernelIdeal.defs _ _).mono (fun _ h => ⟨fun c => Cert.KernelIdeal.Hand.args_kept m h.1 c, h.2⟩) (Cert.KernelIdeal.Hand.run_main m g)

theorem frame_kernelIdeal_finite : Cert.quiescent_KernelIdeal_pre_finite := fun m g _ => frame_kernelIdeal m g trivial

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_referenceIdeal_finite : Cert.quiescent_ReferenceIdeal_pre_finite := fun m g _ => frame_referenceIdeal m g trivial

/-- The kernel's named literals are the constants the idealized kernel is read at. -/
theorem constants : Cert.preserves_Kernel_KernelIdeal :=
  ⟨IdealRules.named_const.statement Cert.KernelIdeal.κ "decay" .f32 0x3F7851EC#32 _ rfl,
    IdealRules.named_const.statement Cert.KernelIdeal.κ "inv_l1_eps" .f32 0x5368D4A5#32 _ rfl,
    IdealRules.named_const.statement Cert.KernelIdeal.κ "log_decay" .f32 0xBCF98597#32 _ rfl,
    IdealRules.named_const.statement Cert.KernelIdeal.κ "mask" .f32 0xF149F2CA#32 _ rfl⟩

end Cert.Proof

end
-- ==== Proof.Maths.lean ====
/-
  The real mathematics behind the equality, free of any program: a decayed state renormalised by its own absolute sum has a closed
  form whose weights are exponentials of cumulated logarithms, and a decayed sum of outer products read back against the state is a
  masked, decay-weighted sum of inner products. Everything is over the reals, time counted by the naturals.
-/
module

public import Mathlib.Analysis.SpecialFunctions.Log.Basic
public import Mathlib.Analysis.SpecialFunctions.Exp
public import Mathlib.Tactic.Ring
public import Mathlib.Tactic.Linarith
public import Mathlib.Algebra.BigOperators.Fin
public import Mathlib.Algebra.BigOperators.Field

@[expose] public section

noncomputable section

namespace Cert.Proof.Maths

open Finset

variable {ι κ : Type} [Fintype ι]

/-- The state before step `t`: decayed, the step's update added, divided by its absolute sum, which is kept above `ε`. -/
def state (δ ε : ℝ) (u : ℕ → ι → ℝ) : ℕ → ι → ℝ
  | 0 => fun _ => 0
  | t + 1 => fun n => (δ * state δ ε u t n + u t n) / max (∑ k, |δ * state δ ε u t k + u t k|) ε

/-- The sum of the state, by a recursion on sums alone. -/
def mass (δ ε : ℝ) (s : ℕ → ℝ) : ℕ → ℝ
  | 0 => 0
  | t + 1 => min ((δ * mass δ ε s t + s t) * (1 / ε)) 1

/-- The divisor of step `t`. -/
def scale (δ ε : ℝ) (s : ℕ → ℝ) (t : ℕ) : ℝ := max (δ * mass δ ε s t + s t) ε

/-- The cumulated logarithm of the divisors, step `t` included. -/
def logs (δ ε : ℝ) (s : ℕ → ℝ) (t : ℕ) : ℝ := ∑ r ∈ range (t + 1), Real.log (scale δ ε s r)

theorem scale_pos {δ ε : ℝ} (hε : 0 < ε) (s : ℕ → ℝ) (t : ℕ) : 0 < scale δ ε s t := lt_of_lt_of_le hε (le_max_right _ _)

section State

variable {δ ε : ℝ} (hδ : 0 < δ) (hε : 0 < ε) (u : ℕ → ι → ℝ) (hu : ∀ t n, 0 ≤ u t n)

include hδ hε hu

theorem state_nonneg (t : ℕ) (n : ι) : 0 ≤ state δ ε u t n := by
  induction t generalizing n with
  | zero => exact le_refl _
  | succ t ih => exact div_nonneg (add_nonneg (mul_nonneg hδ.le (ih n)) (hu t n)) (le_trans hε.le (le_max_right _ _))

theorem abs_sum (t : ℕ) : ∑ k, |δ * state δ ε u t k + u t k| = δ * ∑ k, state δ ε u t k + ∑ k, u t k := by
  rw [Finset.mul_sum, ← Finset.sum_add_distrib]
  exact Finset.sum_congr rfl fun k _ => abs_of_nonneg (add_nonneg (mul_nonneg hδ.le (state_nonneg hδ hε u hu t k)) (hu t k))

theorem sum_state (t : ℕ) : ∑ k, state δ ε u t k = mass δ ε (fun t => ∑ k, u t k) t := by
  induction t with
  | zero => simp [state, mass]
  | succ t ih =>
    simp only [state, mass]
    rw [← Finset.sum_div, abs_sum hδ hε u hu t, Finset.sum_add_distrib, ← Finset.mul_sum, ih]
    set x := δ * mass δ ε (fun t => ∑ k, u t k) t + ∑ k, u t k
    rcases le_total x ε with h | h
    · rw [max_eq_right h, min_eq_left]
      · ring
      · rw [mul_one_div]; exact (div_le_one hε).mpr h
    · rw [max_eq_left h, min_eq_right, div_self (lt_of_lt_of_le hε h).ne']
      rw [mul_one_div]; exact (one_le_div hε).mpr h

/-- One step divides by the step's `scale`. -/
theorem state_succ (t : ℕ) (n : ι) :
    state δ ε u (t + 1) n = (δ * state δ ε u t n + u t n) / scale δ ε (fun t => ∑ k, u t k) t := by
  simp only [state, scale]
  rw [abs_sum hδ hε u hu t, sum_state hδ hε u hu t]

/-- The state after step `t` in closed form. -/
theorem state_closed (t : ℕ) (n : ι) :
    state δ ε u (t + 1) n = u t n * (1 / scale δ ε (fun t => ∑ k, u t k) t)
      + ∑ s ∈ range t, Real.exp ((Real.log δ * ((t : ℝ) - s)
          + (logs δ ε (fun t => ∑ k, u t k) s - Real.log (scale δ ε (fun t => ∑ k, u t k) s))) - logs δ ε (fun t => ∑ k, u t k) t) * u s n := by
  set S : ℕ → ℝ := fun t => ∑ k, u t k
  induction t with
  | zero => rw [state_succ hδ hε u hu]; simp [state, S, div_eq_mul_inv]
  | succ t ih =>
    have hc : 0 < scale δ ε S (t + 1) := scale_pos hε S (t + 1)
    have hlog : logs δ ε S (t + 1) = logs δ ε S t + Real.log (scale δ ε S (t + 1)) := by
      unfold logs; rw [Finset.sum_range_succ]
    have hstep (x : ℝ) : Real.exp (Real.log δ + x - Real.log (scale δ ε S (t + 1))) = δ * Real.exp x / scale δ ε S (t + 1) := by
      rw [Real.exp_sub, Real.exp_add, Real.exp_log hδ, Real.exp_log hc]
    rw [state_succ hδ hε u hu, ih, Finset.sum_range_succ, add_div, mul_add, add_div]
    have h1 : δ * (u t n * (1 / scale δ ε S t)) / scale δ ε S (t + 1)
        = Real.exp ((Real.log δ * (((t + 1 : ℕ) : ℝ) - t) + (logs δ ε S t - Real.log (scale δ ε S t))) - logs δ ε S (t + 1)) * u t n := by
      rw [hlog, show (Real.log δ * (((t + 1 : ℕ) : ℝ) - t) + (logs δ ε S t - Real.log (scale δ ε S t)))
          - (logs δ ε S t + Real.log (scale δ ε S (t + 1)))
          = Real.log δ + (-Real.log (scale δ ε S t)) - Real.log (scale δ ε S (t + 1)) by push_cast; ring, hstep,
        Real.exp_neg, Real.exp_log (scale_pos hε S t)]
      ring
    have h2 : δ * (∑ s ∈ range t, Real.exp ((Real.log δ * ((t : ℝ) - s) + (logs δ ε S s - Real.log (scale δ ε S s))) - logs δ ε S t) * u s n)
          / scale δ ε S (t + 1)
        = ∑ s ∈ range t, Real.exp ((Real.log δ * (((t + 1 : ℕ) : ℝ) - s) + (logs δ ε S s - Real.log (scale δ ε S s))) - logs δ ε S (t + 1)) * u s n := by
      rw [Finset.mul_sum, Finset.sum_div]
      refine Finset.sum_congr rfl fun s _ => ?_
      rw [hlog, show (Real.log δ * (((t + 1 : ℕ) : ℝ) - s) + (logs δ ε S s - Real.log (scale δ ε S s)))
          - (logs δ ε S t + Real.log (scale δ ε S (t + 1)))
          = Real.log δ + ((Real.log δ * ((t : ℝ) - s) + (logs δ ε S s - Real.log (scale δ ε S s))) - logs δ ε S t)
            - Real.log (scale δ ε S (t + 1)) by push_cast; ring, hstep]
      ring
    rw [h1, h2]
    simp only [S]; ring

end State

/-- The memory before step `t`: decayed, the outer product of the step's row and state added. -/
def memory (δ : ℝ) (l : ℕ → κ → ℝ) (x : ℕ → ι → ℝ) : ℕ → κ → ι → ℝ
  | 0 => fun _ _ => 0
  | t + 1 => fun d n => δ * memory δ l x t d n + l t d * x t n

theorem memory_closed {δ : ℝ} (hδ : 0 < δ) (l : ℕ → κ → ℝ) (x : ℕ → ι → ℝ) (t : ℕ) (d : κ) (n : ι) :
    memory δ l x t d n = ∑ s ∈ range t, Real.exp (Real.log δ * (((t : ℝ) - s) - 1)) * (l s d * x s n) := by
  induction t with
  | zero => simp [memory]
  | succ t ih =>
    simp only [memory]
    rw [ih, Finset.sum_range_succ, Finset.mul_sum]
    congr 1
    · refine Finset.sum_congr rfl fun s _ => ?_
      rw [show Real.log δ * ((((t + 1 : ℕ) : ℝ) - s) - 1) = Real.log δ + Real.log δ * (((t : ℝ) - s) - 1) by push_cast; ring,
        Real.exp_add, Real.exp_log hδ]
      ring
    · rw [show Real.log δ * ((((t + 1 : ℕ) : ℝ) - t) - 1) = 0 by push_cast; ring, Real.exp_zero, one_mul]

/-- The memory read against a state: inner products of the states first, then the rows. -/
theorem memory_read {δ : ℝ} (hδ : 0 < δ) (l : ℕ → κ → ℝ) (x : ℕ → ι → ℝ) (t : ℕ) (d : κ) (y : ι → ℝ) :
    ∑ n, memory δ l x t d n * y n
      = ∑ s ∈ range t, (Real.exp (Real.log δ * (((t : ℝ) - s) - 1)) * ∑ n, y n * x s n) * l s d := by
  simp only [memory_closed hδ, Finset.sum_mul]
  rw [Finset.sum_comm]
  refine Finset.sum_congr rfl fun s _ => ?_
  rw [Finset.mul_sum, Finset.sum_mul]
  exact Finset.sum_congr rfl fun n _ => by ring

/-- A sum over `N` indices masked to those below `t` is the sum over those below `t`. -/
theorem sum_masked {N : ℕ} (t : Fin N) (f : ℕ → ℝ) : ∑ s : Fin N, (if (s : ℕ) < t then f s else 0) = ∑ s ∈ range t, f s := by
  rw [Fin.sum_univ_eq_sum_range (fun s => if s < (t : ℕ) then f s else 0) N, ← Finset.sum_filter]
  refine Finset.sum_congr (Finset.ext fun s => ?_) fun _ _ => rfl
  simp only [Finset.mem_filter, Finset.mem_range]
  exact ⟨fun h => h.2, fun h => ⟨h.trans t.isLt, h⟩⟩

/-- The same, masked to those up to and including `t`. -/
theorem sum_through {N : ℕ} (t : Fin N) (f : ℕ → ℝ) :
    ∑ s : Fin N, (if s ≤ t then f s else 0) = ∑ s ∈ range (t + 1), f s := by
  rw [Finset.sum_range_succ, ← sum_masked t f, ← Finset.sum_ite_eq' Finset.univ t (fun s => f s) |>.trans (if_pos (Finset.mem_univ t)),
    ← Finset.sum_add_distrib]
  refine Finset.sum_congr rfl fun s _ => ?_
  rcases lt_trichotomy s t with h | h | h
  · simp [h, h.le, h.ne]
  · simp [h]
  · simp [h.not_ge, h.ne', not_lt.mpr (le_of_lt (Fin.lt_def.mp h))]

end Cert.Proof.Maths

end
-- ==== Proof.Reals.lean ====
/-
  The problem over the reals, and how the programs' arithmetic on extended reals stays on them: what each printed constant denotes,
  casts of sums, quotients and normalised rows, and the specification (`next`, `mem`, `out`) that both programs are shown to compute.
-/
module

public import Idealize.ShloMosaic.Lib.Pointwise
public import proofs.«01_k».proof.Proof.Maths

@[expose] public section

noncomputable section

namespace Cert.Proof

open Idealize.ShloMosaic Finset

/-! ## The printed constants -/

/-- The floor of the divisor: the word of 1e-12. -/
def floorR : ℝ := 2305843 / 2305843009213693952

/-- The word added to a variance: the word of 1e-5. -/
def varR : ℝ := 10995116 / 1099511627776

/-- The decay. -/
def decayR : ℝ := 97 / 100

theorem floor_pos : 0 < floorR := by unfold floorR; norm_num
theorem var_pos : 0 < varR := by unfold varR; norm_num
theorem decay_pos : 0 < decayR := by unfold decayR; norm_num

theorem ofBits_floor : Ideal.ofBits .f32 0x2B8CBCCC#32 = ((floorR : ℝ) : EReal) := by
  simp [Ideal.ofBits, Ideal.ieee, floorR]
  norm_num [← EReal.coe_mul]

theorem ofBits_var : Ideal.ofBits .f32 0x3727C5AC#32 = ((varR : ℝ) : EReal) := by
  simp [Ideal.ofBits, Ideal.ieee, varR]
  norm_num [← EReal.coe_mul]

theorem ofBits_width : Ideal.ofBits .f32 0x43800000#32 = ((256 : ℝ) : EReal) := by
  simp [Ideal.ofBits, Ideal.ieee]
  norm_num [← EReal.coe_mul]

theorem ofBits_97 : Ideal.ofBits .f32 0x42C20000#32 = ((97 : ℝ) : EReal) := by
  simp [Ideal.ofBits, Ideal.ieee]
  norm_num [← EReal.coe_mul]

theorem ofBits_100 : Ideal.ofBits .f32 0x42C80000#32 = ((100 : ℝ) : EReal) := by
  simp [Ideal.ofBits, Ideal.ieee]
  norm_num [← EReal.coe_mul]

/-! ## Casts -/

theorem sum_coe {ι : Type} (s : Finset ι) (f : ι → ℝ) : ∑ k ∈ s, ((f k : ℝ) : EReal) = ((∑ k ∈ s, f k : ℝ) : EReal) :=
  (map_sum (⟨⟨fun x : ℝ => (x : EReal), EReal.coe_zero⟩, EReal.coe_add⟩ : ℝ →+ EReal) f s).symm

theorem max_coe (x y : ℝ) : max (x : EReal) (y : EReal) = ((max x y : ℝ) : EReal) :=
  ((EReal.coe_strictMono.monotone).map_max).symm

theorem min_coe (x y : ℝ) : min (x : EReal) (y : EReal) = ((min x y : ℝ) : EReal) :=
  ((EReal.coe_strictMono.monotone).map_min).symm

theorem max_zero_coe (x : ℝ) : max (x : EReal) 0 = ((max x 0 : ℝ) : EReal) := max_coe x 0

theorem min_one_coe (x : ℝ) : min (x : EReal) 1 = ((min x 1 : ℝ) : EReal) := min_coe x 1

theorem abs_coe (x : ℝ) : max (x : EReal) (-(x : EReal)) = ((|x| : ℝ) : EReal) := by
  rw [← EReal.coe_neg, max_coe]; rfl

theorem div_coe (x : ℝ) {y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((√x)⁻¹ : ℝ) : EReal) := by
  rw [Ideal.rsqrt_coe, if_neg (not_lt.mpr h.le), if_neg h.ne']

theorem log_coe {x : ℝ} (h : 0 < x) : Ideal.log (x : EReal) = ((Real.log x : ℝ) : EReal) := by
  rw [Ideal.log_coe, if_neg (not_le.mpr h)]

/-! ## Rows brought to mean 0 and variance 1 -/

/-- The mean of a row. -/
def mean (r : Fin 256 → ℝ) : ℝ := (∑ k, r k) / 256

/-- The variance of a row. -/
def var (r : Fin 256 → ℝ) : ℝ := (∑ k, (r k - mean r) * (r k - mean r)) / 256

/-- The row normalised. -/
def unit (r : Fin 256 → ℝ) (d : Fin 256) : ℝ := (r d - mean r) * (√(var r + varR))⁻¹

theorem width_coe (x : ℝ) : Ideal.div (x : EReal) (Ideal.ofBits .f32 0x43800000#32) = ((x / 256 : ℝ) : EReal) := by
  rw [ofBits_width, div_coe _ (by norm_num)]

theorem rsqrt_var_coe (z : Fin 256 → ℝ) :
    Ideal.rsqrt ((((∑ k, z k * z k) / 256 : ℝ) : EReal) + Ideal.ofBits .f32 0x3727C5AC#32)
      = (((√((∑ k, z k * z k) / 256 + varR))⁻¹ : ℝ) : EReal) := by
  rw [ofBits_var, ← EReal.coe_add, rsqrt_coe]
  exact add_pos_of_nonneg_of_pos (div_nonneg (Finset.sum_nonneg fun _ _ => mul_self_nonneg _) (by norm_num)) var_pos

/-! ## The specification -/

/-- The real weights of the problem. -/
structure Weights where
  /-- `Dx`, row per neuron. -/
  dx : Fin 1024 → Fin 256 → ℝ
  /-- `Dy`, row per neuron. -/
  dy : Fin 1024 → Fin 256 → ℝ
  /-- `E`, row per feature. -/
  e : Fin 256 → Fin 1024 → ℝ

/-- What a row adds to the state. -/
def Weights.update (W : Weights) (v : Fin 256 → ℝ) (n : Fin 1024) : ℝ := max (∑ d, v d * W.dx n d) 0

variable (W : Weights) (w : ℕ → Fin 256 → ℝ)

theorem update_nonneg (t : ℕ) (n : Fin 1024) : 0 ≤ W.update (w t) n := le_max_right _ _

/-- The state before step `t`, from the sequence of rows `w`. -/
def next (t : ℕ) : Fin 1024 → ℝ := Maths.state decayR floorR (fun t => W.update (w t)) t

/-- The memory before step `t`. -/
def mem (t : ℕ) : Fin 256 → Fin 1024 → ℝ := Maths.memory decayR (fun t => unit (w t)) (fun t => next W w (t + 1)) t

/-- The memory read against the state of step `t`. -/
def recall (t : ℕ) (d : Fin 256) : ℝ := ∑ n, mem W w t d n * next W w (t + 1) n

/-- What a recalled row `a` and a state `x` give back before the last normalisation. -/
def Weights.emit (W : Weights) (a : Fin 256 → ℝ) (x : Fin 1024 → ℝ) (d : Fin 256) : ℝ :=
  ∑ n, (max (∑ k, unit a k * W.dy n k) 0 * x n) * W.e d n

/-- The result row of step `t`. -/
def out (t : ℕ) (d : Fin 256) : ℝ := unit (W.emit (recall W w t) (next W w (t + 1))) d

theorem next_nonneg (t : ℕ) (n : Fin 1024) : 0 ≤ next W w t n :=
  Maths.state_nonneg decay_pos floor_pos _ (update_nonneg W w) t n

end Cert.Proof

end
-- ==== Proof.KernelRows.lean ====
/-
  The kernel's block operations over the reals: the 256 states of one batch row from its updates, divisors and running logs (`chunk`),
  and the recalled rows from the states and the inputs (`gather`), each for every batch row at once.
-/
module

public import proofs.«01_k».proof.Proof.Gen.KernelIdeal.Skeleton
public import proofs.«01_k».proof.Proof.Reals

@[expose] public section

set_option maxRecDepth 16384

noncomputable section

namespace Cert.KernelIdeal.Hand

open Cert.KernelIdeal Cert.KernelIdeal.Gen Cert.Proof
open Idealize.ShloMosaic Idealize.ShloMosaic.TcCoe

/-- Row `b` of an array of 128 rows of 256 fits. -/
theorem row_slices (b : Fin 8) : S128x256.Slices ![(b : ℕ), 0] S1x256 :=
  ⟨rfl, fun a => match a with
    | ⟨0, _⟩ => by show (b : ℕ) + 1 ≤ 128; omega
    | ⟨1, _⟩ => by show 0 + 256 ≤ 256; omega⟩

/-- Column `b` of an array of 128 columns of 256 fits. -/
theorem col_slices (b : Fin 8) : S256x128.Slices ![0, (b : ℕ)] S256x1 :=
  ⟨rfl, fun a => match a with
    | ⟨0, _⟩ => by show 0 + 256 ≤ 256; omega
    | ⟨1, _⟩ => by show (b : ℕ) + 1 ≤ 128; omega⟩

/-- The states of batch row `b`: from the running logs `lc` and the differences `g` of all batch rows, the row's updates `u` and
    its divisors `q`. -/
def chunk (b : Fin 8) (lc : FVec Ideal S256x128 .f32) (g : FVec Ideal S128x256 .f32) (u : FVec Ideal S256x1024 .f32)
    (q : FVec Ideal S256x1 .f32) : FVec Ideal S256x1024 .f32 :=
  addf (mulf u (broadcastTo S256x1024 (divf (broadcast S256x1 (FloatOps.ofBits .f32 0x3F800000#32)) q) broadcasts_S256x1_S256x1024))
    (matmul dot_S256x256_S256x1024_S256x1024_1_0_0_1_n_n none
      (exp (subf (addf (k0_pay33 (F := Ideal)) (broadcastTo S256x256 (extractStridedSlice S1x256 ![(b : ℕ), 0] g (row_slices b))
          broadcasts_S1x256_S256x256))
        (broadcastTo S256x256 (extractStridedSlice S256x1 ![0, (b : ℕ)] lc (col_slices b)) broadcasts_S256x1_S256x256)))
      u (constant S256x1024 .f32 0#32))

/-! ## The named constants and the masks -/

theorem decay_value : Named.named (F := Ideal) κ "decay" (φ := .f32) 0x3F7851EC#32 = ((decayR : ℝ) : EReal) :=
  IdealRules.named_const.ideal_named_scalar _ _ _ _ rfl

theorem log_decay_value : Named.named (F := Ideal) κ "log_decay" (φ := .f32) 0xBCF98597#32 = ((Real.log decayR : ℝ) : EReal) :=
  IdealRules.named_const.ideal_named_scalar _ _ _ _ rfl

theorem mask_value : Named.named (F := Ideal) κ "mask" (φ := .f32) 0xF149F2CA#32 = (⊥ : EReal) :=
  IdealRules.named_const.ideal_named_scalar _ _ _ _ rfl

theorem inverse_value : Named.named (F := Ideal) κ "inv_l1_eps" (φ := .f32) 0x5368D4A5#32 = ((1 / floorR : ℝ) : EReal) := by
  rw [floorR, one_div_div]
  exact IdealRules.named_const.ideal_named_scalar _ _ _ _ rfl

/-- A position as a word reads back as itself. -/
theorem position_toInt (t : Fin 256) : (BitVec.ofNat 32 (t : ℕ)).toInt = t := by
  rw [BitVec.toInt_eq_toNat_of_lt] <;> rw [BitVec.toNat_ofNat, Nat.mod_eq_of_lt (by omega)]
  omega

/-- The choice on a comparison of two positions. -/
theorem select_lt (s t : Fin 256) (x y : EReal) :
    Scalar.select (IntOp.cmpi .slt (BitVec.ofNat 32 s) (BitVec.ofNat 32 t)) x y = if (s : ℕ) < t then x else y := by
  simp only [IntOp.cmpi, BitVec.slt, BitVec.sle, position_toInt, Nat.cast_lt, Nat.cast_le]
  by_cases h : (s : ℕ) < t <;> simp [Scalar.select, h]

theorem select_le (s t : Fin 256) (x y : EReal) :
    Scalar.select (IntOp.cmpi .sle (BitVec.ofNat 32 s) (BitVec.ofNat 32 t)) x y = if (s : ℕ) ≤ t then x else y := by
  simp only [IntOp.cmpi, BitVec.slt, BitVec.sle, position_toInt, Nat.cast_lt, Nat.cast_le]
  by_cases h : (s : ℕ) ≤ t <;> simp [Scalar.select, h]

/-- The distance of two positions as a number. -/
theorem distance (t s : Fin 256) :
    (FloatOps.sitofp .f32 (IntOp.subi (BitVec.ofNat 32 t) (BitVec.ofNat 32 s)) : Ideal .f32) = (((t : ℝ) - s : ℝ) : EReal) := by
  have h : (IntOp.subi (BitVec.ofNat 32 t) (BitVec.ofNat 32 s)).toInt = (t : ℤ) - s := by
    rw [IntOp.subi, BitVec.toInt_sub, position_toInt, position_toInt]
    exact Int.bmod_eq_of_le (by omega) (by omega)
  show (((IntOp.subi (BitVec.ofNat 32 t) (BitVec.ofNat 32 s)).toInt : ℝ) : EReal) = _
  rw [h]
  push_cast
  rfl

theorem pay33_apply (t s : Fin 256) :
    k0_pay33 (F := Ideal) (ix2 t s) = if (s : ℕ) < t then ((Real.log decayR * ((t : ℝ) - s) : ℝ) : EReal) else ⊥ := by
  unfold k0_pay33 k0_pay30 k0_pay31
  pointwise
  rw [select_lt, distance, log_decay_value, mask_value, ← EReal.coe_mul]

theorem pay32_apply (t s : Fin 256) :
    k0_pay32 (F := Ideal) (ix2 t s) = ((if (s : ℕ) < t then Real.exp (Real.log decayR * ((t : ℝ) - s - 1)) else 0 : ℝ) : EReal) := by
  unfold k0_pay32 k0_pay30 k0_pay31
  pointwise
  rw [select_lt, distance, log_decay_value, ← EReal.coe_one, ← EReal.coe_sub, ← EReal.coe_mul, Ideal.exp_coe]
  split <;> rfl

theorem pay34_apply (t s : Fin 256) : k0_pay34 (F := Ideal) (ix2 t s) = ((if (s : ℕ) ≤ t then 1 else 0 : ℝ) : EReal) := by
  unfold k0_pay34
  pointwise
  rw [select_le]
  split <;> rfl

/-- A masked term of a chunk's sum. -/
theorem masked_term (p : Prop) [Decidable p] (a x y u : ℝ) :
    Ideal.exp ((if p then (a : EReal) else ⊥) + x - y) * u = ((if p then Real.exp (a + x - y) * u else 0 : ℝ) : EReal) := by
  by_cases h : p
  · rw [if_pos h, if_pos h, ← EReal.coe_add, ← EReal.coe_sub, Ideal.exp_coe, ← EReal.coe_mul]
  · rw [if_neg h, if_neg h, EReal.bot_add, sub_eq_add_neg, EReal.bot_add, Ideal.exp_bot, zero_mul]; rfl

/-! ## The states -/

variable (W : Weights) (w : ℕ → Fin 256 → ℝ)

/-- What the states of one batch row gain in all at step `t`. -/
def gain (t : ℕ) : ℝ := ∑ n, W.update (w t) n

/-- The divisor of step `t`. -/
def divisor (t : ℕ) : ℝ := Maths.scale decayR floorR (gain W w) t

/-- The running sum of the divisors' logarithms. -/
def running (t : ℕ) : ℝ := Maths.logs decayR floorR (gain W w) t

theorem divisor_pos (t : ℕ) : 0 < divisor W w t := Maths.scale_pos floor_pos _ _

variable {W w}

theorem chunk_value {b : Fin 8} {lc : FVec Ideal S256x128 .f32} {g : FVec Ideal S128x256 .f32} {u : FVec Ideal S256x1024 .f32}
    {q : FVec Ideal S256x1 .f32} (hl : ∀ t : Fin 256, lc (ix2 t ⟨b, by omega⟩) = ((running W w t : ℝ) : EReal))
    (hg : ∀ t : Fin 256, g (ix2 ⟨b, by omega⟩ t) = ((running W w t - Real.log (divisor W w t) : ℝ) : EReal))
    (hu : ∀ (t : Fin 256) n, u (ix2 t n) = ((W.update (w t) n : ℝ) : EReal))
    (hq : ∀ t : Fin 256, q (ix2 t 0) = ((divisor W w t : ℝ) : EReal)) (t : Fin 256) (n : Fin 1024) :
    chunk b lc g u q (ix2 t n) = ((next W w (t + 1) n : ℝ) : EReal) := by
  unfold chunk
  pointwise
  simp only [hl, hg, hu, hq, pay33_apply, masked_term, sum_coe]
  rw [← EReal.coe_one, div_coe _ (divisor_pos W w t).ne', ← EReal.coe_mul, ← EReal.coe_add, next,
    Maths.state_closed decay_pos floor_pos _ (update_nonneg W w), ← Maths.sum_masked]
  rfl

/-! ## The recalled rows -/

/-- Batch row `b` of eight fits. -/
theorem batch_slices (b : Fin 8) : S8x256x256.Slices ![(b : ℕ), 0, 0] S1x256x256 :=
  ⟨rfl, fun a => match a with
    | ⟨0, _⟩ => by show (b : ℕ) + 1 ≤ 8; omega
    | ⟨1, _⟩ => by show 0 + 256 ≤ 256; omega
    | ⟨2, _⟩ => by show 0 + 256 ≤ 256; omega⟩

/-- The rows of `r`, each less its mean. -/
def centred (r : FVec Ideal S256x256 .f32) : FVec Ideal S256x256 .f32 :=
  subf r (broadcastTo S256x256 (divf (shapeCast S256x1 (multiReduction .add [1] S256 r 0x00000000#32 reduces_S256x256_S256 (.inl rfl) rfl)
    shapeCasts_S256_S256x1) (broadcast S256x1 (FloatOps.ofBits .f32 0x43800000#32))) broadcasts_S256x1_S256x256)

/-- The rows of `r` normalised. -/
def normed (r : FVec Ideal S256x256 .f32) : FVec Ideal S256x256 .f32 :=
  mulf (centred r) (broadcastTo S256x256 (rsqrt (addf (divf (shapeCast S256x1 (multiReduction .add [1] S256 (mulf (centred r) (centred r))
      0x00000000#32 reduces_S256x256_S256 (.inl rfl) rfl) shapeCasts_S256_S256x1) (broadcast S256x1 (FloatOps.ofBits .f32 0x43800000#32)))
    (broadcast S256x1 (FloatOps.ofBits .f32 0x3727C5AC#32)))) broadcasts_S256x1_S256x256)

/-- The recalled rows of batch row `b`, from its states `x` and the inputs `v` of all. -/
def gather (b : Fin 8) (x : FVec Ideal S256x1024 .f32) (v : FVec Ideal S8x256x256 .f32) : FVec Ideal S256x256 .f32 :=
  matmul dot_S256x256_S256x256_S256x256_1_0_0_1_n_n none
    (mulf (k0_pay32 (F := Ideal)) (matmul dot_S256x1024_S256x1024_S256x256_1_1_0_0_n_n none x x (constant S256x256 .f32 0#32)))
    (normed (shapeCast S256x256 (extractStridedSlice S1x256x256 ![(b : ℕ), 0, 0] v (batch_slices b)) shapeCasts_S1x256x256_S256x256))
    (constant S256x256 .f32 0#32)

theorem normed_value {r : FVec Ideal S256x256 .f32} {z : Fin 256 → Fin 256 → ℝ} (h : ∀ s d, r (ix2 s d) = ((z s d : ℝ) : EReal))
    (s d : Fin 256) : normed r (ix2 s d) = ((unit (z s) d : ℝ) : EReal) := by
  unfold normed centred
  pointwise
  simp only [h, ← EReal.coe_sub, ← EReal.coe_mul, sum_coe, width_coe, rsqrt_var_coe]
  rfl

theorem gather_value {b : Fin 8} {x : FVec Ideal S256x1024 .f32} {v : FVec Ideal S8x256x256 .f32}
    (hx : ∀ (t : Fin 256) n, x (ix2 t n) = ((next W w (t + 1) n : ℝ) : EReal))
    (hv : ∀ t d : Fin 256, v (ix3 b t d) = ((w t d : ℝ) : EReal)) (t d : Fin 256) :
    gather b x v (ix2 t d) = ((recall W w t d : ℝ) : EReal) := by
  have hr (s d : Fin 256) : shapeCast S256x256 (extractStridedSlice S1x256x256 ![(b : ℕ), 0, 0] v (batch_slices b))
      shapeCasts_S1x256x256_S256x256 (ix2 s d) = ((w s d : ℝ) : EReal) := by
    pointwise
    exact hv s d
  unfold gather
  pointwise
  simp only [normed_value hr, hx, pay32_apply, ← EReal.coe_mul, sum_coe]
  rw [recall, mem, Maths.memory_read decay_pos, ← Maths.sum_masked]
  simp only [ite_mul, zero_mul]

end Cert.KernelIdeal.Hand

end
-- ==== Proof.KernelLoop.lean ====
/-
  The kernel's loop over the reals: from tiles of eight rows of gains it leaves the divisors, tile by tile, whatever its two buffers
  held before.
-/
module

public import proofs.«01_k».proof.Proof.KernelIdealBody
public import proofs.«01_k».proof.Proof.KernelRows
import all proofs.«01_k».proof.Proof.Gen.KernelIdeal.Loops

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic

/-! ## Reading after a store of a box -/

section
variable {sig : RefSig} {κ : Kind} {sp : Space} {S : Shape} {e : EltTy} {Val : EltTy → Type}

/-- Inside the last store's box a read finds what that store put there. -/
theorem read_inside (v : View sig κ sp S e) (f : v.ty.Contents Val) {off size : Fin S.rank → ℕ} {inb : ∀ a, off a + size a ≤ S.size a}
    (x : (Rect.unit off size inb).shape.Idx → Val e) (L : List (View.Piece Val S e)) (i : (Rect.unit off size inb).shape.Idx) (y : S.Idx)
    (h : ∀ a, (y a : ℕ) = off a + i a) : v.read Val (v.writes Val f (⟨Rect.unit off size inb, x⟩ :: L)) y = x i := by
  have hy : y = (Rect.unit off size inb).emb i := funext fun a => Fin.ext (by rw [h, Rect.emb_apply]; show _ = off a + 1 * (i a : ℕ); omega)
  rw [hy, View.read_writes_cons_emb]

/-- Outside it a read finds what the earlier stores left. -/
theorem read_outside (v : View sig κ sp S e) (f : v.ty.Contents Val) {off size : Fin S.rank → ℕ} {inb : ∀ a, off a + size a ≤ S.size a}
    (x : (Rect.unit off size inb).shape.Idx → Val e) (L : List (View.Piece Val S e)) (y : S.Idx) (a : Fin S.rank)
    (h : (y a : ℕ) < off a ∨ off a + size a ≤ y a) :
    v.read Val (v.writes Val f (⟨Rect.unit off size inb, x⟩ :: L)) y = v.read Val (v.writes Val f L) y := by
  have hy : y ∉ Finset.univ.map (Rect.unit off size inb).emb := by
    rw [Rect.map_emb_univ, Rect.mem_set_unit]
    exact fun hm => by have := hm a; omega
  rw [View.writes_cons, View.read_slice_write_of_not_mem _ _ _ _ hy]

end

/-! ## One trip -/

/-- The amount before the divisor's floor. -/
def amount (s : ℕ → ℝ) (t : ℕ) : ℝ := decayR * Maths.mass decayR floorR s t + s t

variable {s : ℕ → ℝ}

theorem mass_value (t : ℕ) :
    min (((amount s t : ℝ) : EReal) * ((1 / floorR : ℝ) : EReal)) 1 = ((Maths.mass decayR floorR s (t + 1) : ℝ) : EReal) := by
  rw [← EReal.coe_mul, min_one_coe]; rfl

/-- One row of a trip from the row before it. -/
theorem amount_value (t r : ℕ) (h : r = t + 1) :
    ((decayR : ℝ) : EReal) * min (((amount s t : ℝ) : EReal) * ((1 / floorR : ℝ) : EReal)) 1 + ((s r : ℝ) : EReal)
      = ((amount s r : ℝ) : EReal) := by
  subst h
  rw [mass_value, ← EReal.coe_mul, ← EReal.coe_add]; rfl

theorem floored_value (t : ℕ) :
    max ((amount s t : ℝ) : EReal) ((floorR : ℝ) : EReal) = ((Maths.scale decayR floorR s t : ℝ) : EReal) := max_coe ..

variable {acc : FVec Ideal S1x128 .f32} {tile : FVec Ideal S8x128 .f32} {k : ℕ} {l : Fin 128}

/-- The amount of each row of the trip. -/
structure Amounts (acc : FVec Ideal S1x128 .f32) (tile : FVec Ideal S8x128 .f32) (s : ℕ → ℝ) (k : ℕ) (l : Fin 128) : Prop where
  row0 : k0_pay2 acc tile (ix2 0 l) = ((amount s (8 * k) : ℝ) : EReal)
  row1 : k0_pay4 acc tile (ix2 0 l) = ((amount s (8 * k + 1) : ℝ) : EReal)
  row2 : k0_pay6 acc tile (ix2 0 l) = ((amount s (8 * k + 2) : ℝ) : EReal)
  row3 : k0_pay8 acc tile (ix2 0 l) = ((amount s (8 * k + 3) : ℝ) : EReal)
  row4 : k0_pay11 tile (k0_pay10 acc tile) (ix2 0 l) = ((amount s (8 * k + 4) : ℝ) : EReal)
  row5 : k0_pay12 tile (k0_pay10 acc tile) (ix2 0 l) = ((amount s (8 * k + 5) : ℝ) : EReal)
  row6 : k0_pay13 tile (k0_pay10 acc tile) (ix2 0 l) = ((amount s (8 * k + 6) : ℝ) : EReal)
  row7 : k0_pay14 tile (k0_pay10 acc tile) (ix2 0 l) = ((amount s (8 * k + 7) : ℝ) : EReal)

theorem amounts (ha : acc (ix2 0 l) = ((Maths.mass decayR floorR s (8 * k) : ℝ) : EReal))
    (ht : ∀ j : Fin 8, tile (ix2 j l) = ((s (8 * k + j) : ℝ) : EReal)) : Amounts acc tile s k l := by
  have row0 : k0_pay2 acc tile (ix2 0 l) = ((amount s (8 * k) : ℝ) : EReal) := by
    unfold k0_pay2; pointwise; rw [ha, ht, decay_value, ← EReal.coe_mul, ← EReal.coe_add]; rfl
  have row1 : k0_pay4 acc tile (ix2 0 l) = ((amount s (8 * k + 1) : ℝ) : EReal) := by
    unfold k0_pay4; pointwise; rw [row0, ht, decay_value, inverse_value]; exact amount_value _ _ rfl
  have row2 : k0_pay6 acc tile (ix2 0 l) = ((amount s (8 * k + 2) : ℝ) : EReal) := by
    unfold k0_pay6; pointwise; rw [row1, ht, decay_value, inverse_value]; exact amount_value _ _ rfl
  have row3 : k0_pay8 acc tile (ix2 0 l) = ((amount s (8 * k + 3) : ℝ) : EReal) := by
    unfold k0_pay8; pointwise; rw [row2, ht, decay_value, inverse_value]; exact amount_value _ _ rfl
  have row4 : k0_pay11 tile (k0_pay10 acc tile) (ix2 0 l) = ((amount s (8 * k + 4) : ℝ) : EReal) := by
    unfold k0_pay11 k0_pay10; pointwise; rw [row3, ht, decay_value, inverse_value]; exact amount_value _ _ rfl
  have row5 : k0_pay12 tile (k0_pay10 acc tile) (ix2 0 l) = ((amount s (8 * k + 5) : ℝ) : EReal) := by
    unfold k0_pay12; pointwise; rw [row4, ht, decay_value, inverse_value]; exact amount_value _ _ rfl
  have row6 : k0_pay13 tile (k0_pay10 acc tile) (ix2 0 l) = ((amount s (8 * k + 6) : ℝ) : EReal) := by
    unfold k0_pay13; pointwise; rw [row5, ht, decay_value, inverse_value]; exact amount_value _ _ rfl
  have row7 : k0_pay14 tile (k0_pay10 acc tile) (ix2 0 l) = ((amount s (8 * k + 7) : ℝ) : EReal) := by
    unfold k0_pay14; pointwise; rw [row6, ht, decay_value, inverse_value]; exact amount_value _ _ rfl
  exact ⟨row0, row1, row2, row3, row4, row5, row6, row7⟩

/-- What a trip carries on. -/
def yielded (acc : FVec Ideal S1x128 .f32) (tile : FVec Ideal S8x128 .f32) : FVec Ideal S1x128 .f32 := k0_pay15 tile (k0_pay10 acc tile)

/-- What a trip stores. -/
def stored (acc : FVec Ideal S1x128 .f32) (tile : FVec Ideal S8x128 .f32) : FVec Ideal S8x128 .f32 :=
  k0_pay29 (k0_pay16 tile (k0_pay3 acc tile) (k0_pay5 acc tile) (k0_pay7 acc tile) (k0_pay9 acc tile) (k0_pay10 acc tile))

theorem yielded_value (h : Amounts acc tile s k l) : yielded acc tile (ix2 0 l) = ((Maths.mass decayR floorR s (8 * (k + 1)) : ℝ) : EReal) := by
  unfold yielded k0_pay15
  pointwise
  rw [h.row7, inverse_value]
  exact mass_value _

theorem stored_value (h : Amounts acc tile s k l) (j : Fin 8) :
    stored acc tile (ix2 j l) = ((Maths.scale decayR floorR s (8 * k + j) : ℝ) : EReal) := by
  unfold stored k0_pay29 k0_pay16 k0_pay3 k0_pay5 k0_pay7 k0_pay9
  pointwise
  rw [ofBits_floor]
  match j with
  | 0 => exact (congrArg (max · _) h.row0).trans (floored_value _)
  | 1 => exact (congrArg (max · _) h.row1).trans (floored_value _)
  | 2 => exact (congrArg (max · _) h.row2).trans (floored_value _)
  | 3 => exact (congrArg (max · _) h.row3).trans (floored_value _)
  | 4 => exact (congrArg (max · _) h.row4).trans (floored_value _)
  | 5 => exact (congrArg (max · _) h.row5).trans (floored_value _)
  | 6 => exact (congrArg (max · _) h.row6).trans (floored_value _)
  | 7 => exact (congrArg (max · _) h.row7).trans (floored_value _)

/-! ## All trips -/

/-- Trip `k` works on rows `8k` to `8k + 7`. -/
theorem off_eq : ∀ k : Fin k0_t1_loop.trips, k0_off1 k = ![8 * (k : ℕ), 0] := by decide +kernel

theorem trips_eq : k0_t1_loop.trips = 32 := by decide +kernel

section
variable (c : Dev nD) (i : grid0.Coords) (arg1 : Memref sig .tc .vmem S5120x256 .f32) (harg1 : arg1.IsWhole)
    (arg2 : Memref sig .tc .vmem S8x256x256 .f32) (harg2 : arg2.IsWhole) (arg3 : Memref sig .tc .vmem S2048x1024 .f32) (harg3 : arg3.IsWhole)
    (arg4 : Memref sig .tc .vmem S256x128 .f32) (harg4 : arg4.IsWhole) (arg5 : Memref sig .tc .vmem S256x128 .f32) (harg5 : arg5.IsWhole)
    (v17 v20 v23 v26 v29 : FVec Ideal S256x1 .f32) (X : BufTy.Contents (Elt Ideal) arg4.view.ty)
    (f : BufTy.Contents (Elt Ideal) arg5.view.ty)

/-- The tile trip `k` loads. -/
def loaded (k : Fin k0_t1_loop.trips) : FVec Ideal S8x128 .f32 :=
  View.readAt (Elt Ideal) arg4.view (Rect.unit (s := S256x128) (k0_off1 k) S8x128.size (k0_off1_inb k)).toLoadRect X

/-- The carried value and the stores before trip `k`. -/
abbrev before (k : ℕ) : FVec Ideal S1x128 .f32 × List (View.Piece (Elt Ideal) S256x128 .f32) :=
  st_k0_t1 (F := Ideal) Variants.none c none i arg1 harg1 arg2 harg2 arg3 harg3 arg4 harg4 arg5 harg5 v17 v20 v23 v26 v29 X k0_pay28 k

theorem before_succ (k : Fin k0_t1_loop.trips) :
    before c i arg1 harg1 arg2 harg2 arg3 harg3 arg4 harg4 arg5 harg5 v17 v20 v23 v26 v29 X (k + 1)
      = (yielded (before c i arg1 harg1 arg2 harg2 arg3 harg3 arg4 harg4 arg5 harg5 v17 v20 v23 v26 v29 X k).1 (loaded arg4 X k),
          ⟨Rect.unit (s := S256x128) (k0_off1 k) S8x128.size (k0_off1_inb k),
            stored (before c i arg1 harg1 arg2 harg2 arg3 harg3 arg4 harg4 arg5 harg5 v17 v20 v23 v26 v29 X k).1 (loaded arg4 X k)⟩
          :: (before c i arg1 harg1 arg2 harg2 arg3 harg3 arg4 harg4 arg5 harg5 v17 v20 v23 v26 v29 X k).2) := by
  unfold before
  rw [st_k0_t1_succ]
  unfold tripR_k0_t1 tripL_k0_t1 trip_k0_t1
  rfl

/-- Row `j` of the tile trip `k` loads. -/
theorem loaded_row (k : Fin k0_t1_loop.trips) (j : Fin 8) (l : Fin 128) (hj : 8 * (k : ℕ) + j < 256) :
    loaded arg4 X k (ix2 j l) = arg4.view.read (Elt Ideal) X (ix2 ⟨8 * k + j, hj⟩ l) := by
  refine congrArg (arg4.view.read (Elt Ideal) X) (funext fun a => Fin.ext ?_)
  refine (congrArg (· + 1 * ((ix2 j l : S8x128.Idx) a : ℕ)) (congrFun (off_eq k) a)).trans ?_
  match a with
  | 0 => show 8 * (k : ℕ) + 1 * (j : ℕ) = 8 * k + j; omega
  | 1 => show 0 + 1 * (l : ℕ) = l; omega

/-- Inside trip `k`'s tile a read finds what the trip stored; -/
theorem stored_inside (x : FVec Ideal S8x128 .f32) (L : List (View.Piece (Elt Ideal) S256x128 .f32)) (k : Fin k0_t1_loop.trips) (t : Fin 256)
    (l : Fin 128) (j : Fin 8) (h : (t : ℕ) = 8 * k + j) :
    arg5.view.read (Elt Ideal) (arg5.view.writes (Elt Ideal) f
        (⟨Rect.unit (s := S256x128) (k0_off1 k) S8x128.size (k0_off1_inb k), x⟩ :: L)) (ix2 t l) = x (ix2 j l) := by
  refine read_inside arg5.view f x L (ix2 j l) (ix2 t l) fun a => ?_
  refine Eq.trans ?_ (congrArg (· + ((ix2 j l : S8x128.Idx) a : ℕ)) (congrFun (off_eq k) a)).symm
  match a with
  | 0 => exact h
  | 1 => show (l : ℕ) = 0 + l; omega

/-- before it, what the earlier ones did. -/
theorem stored_before (x : FVec Ideal S8x128 .f32) (L : List (View.Piece (Elt Ideal) S256x128 .f32)) (k : Fin k0_t1_loop.trips) (t : Fin 256)
    (l : Fin 128) (h : (t : ℕ) < 8 * k) :
    arg5.view.read (Elt Ideal) (arg5.view.writes (Elt Ideal) f
        (⟨Rect.unit (s := S256x128) (k0_off1 k) S8x128.size (k0_off1_inb k), x⟩ :: L)) (ix2 t l)
      = arg5.view.read (Elt Ideal) (arg5.view.writes (Elt Ideal) f L) (ix2 t l) :=
  read_outside arg5.view f x L (ix2 t l) 0 (.inl (lt_of_lt_of_eq h (congrFun (off_eq k) 0).symm))

variable {X f} in
/-- One trip: the mass and the divisors go on by eight rows. -/
theorem trip_step {l : Fin 128} (hX : ∀ t : Fin 256, arg4.view.read (Elt Ideal) X (ix2 t l) = ((s t : ℝ) : EReal))
    (k : Fin k0_t1_loop.trips) {a : FVec Ideal S1x128 .f32} {L : List (View.Piece (Elt Ideal) S256x128 .f32)}
    (h1 : a (ix2 0 l) = ((Maths.mass decayR floorR s (8 * k) : ℝ) : EReal))
    (h2 : ∀ t : Fin 256, (t : ℕ) < 8 * k → arg5.view.read (Elt Ideal) (arg5.view.writes (Elt Ideal) f L) (ix2 t l)
      = ((Maths.scale decayR floorR s t : ℝ) : EReal)) :
    yielded a (loaded arg4 X k) (ix2 0 l) = ((Maths.mass decayR floorR s (8 * (k + 1)) : ℝ) : EReal)
      ∧ ∀ t : Fin 256, (t : ℕ) < 8 * (k + 1) → arg5.view.read (Elt Ideal) (arg5.view.writes (Elt Ideal) f
          (⟨Rect.unit (s := S256x128) (k0_off1 k) S8x128.size (k0_off1_inb k), stored a (loaded arg4 X k)⟩ :: L)) (ix2 t l)
        = ((Maths.scale decayR floorR s t : ℝ) : EReal) := by
  have hk : (k : ℕ) < 32 := lt_of_lt_of_eq k.isLt trips_eq
  have hA : Amounts a (loaded arg4 X k) s k l := amounts h1 fun j => (loaded_row arg4 X k j l (by omega)).trans (hX _)
  refine ⟨yielded_value hA, fun t ht => ?_⟩
  by_cases hlt : (t : ℕ) < 8 * k
  · exact (stored_before arg5 f _ L k t l hlt).trans (h2 t hlt)
  · have hj : (t : ℕ) = 8 * k + ((⟨t - 8 * k, by omega⟩ : Fin 8) : ℕ) := by show (t : ℕ) = 8 * k + (t - 8 * k); omega
    rw [stored_inside arg5 f _ L k t l _ hj, stored_value hA, ← hj]

/-- Before trip `k` the carried value is the mass and the rows so far hold the divisors, in every column whose rows hold gains. -/
theorem loop_before {l : Fin 128} (hX : ∀ t : Fin 256, arg4.view.read (Elt Ideal) X (ix2 t l) = ((s t : ℝ) : EReal)) : ∀ k ≤ 32,
    (before c i arg1 harg1 arg2 harg2 arg3 harg3 arg4 harg4 arg5 harg5 v17 v20 v23 v26 v29 X k).1 (ix2 0 l)
        = ((Maths.mass decayR floorR s (8 * k) : ℝ) : EReal)
      ∧ ∀ t : Fin 256, (t : ℕ) < 8 * k →
        arg5.view.read (Elt Ideal) (arg5.view.writes (Elt Ideal) f
            (before c i arg1 harg1 arg2 harg2 arg3 harg3 arg4 harg4 arg5 harg5 v17 v20 v23 v26 v29 X k).2) (ix2 t l)
          = ((Maths.scale decayR floorR s t : ℝ) : EReal)
  | 0, _ => by
    refine ⟨?_, fun t ht => absurd ht (Nat.not_lt_zero _)⟩
    show k0_pay28 (F := Ideal) (ix2 0 l) = _
    unfold k0_pay28
    pointwise
    rfl
  | k + 1, hk => by
    obtain ⟨h1, h2⟩ := loop_before hX k (by omega)
    have h := trip_step arg4 arg5 hX ⟨k, by rw [trips_eq]; omega⟩ h1 h2
    rw [before_succ c i arg1 harg1 arg2 harg2 arg3 harg3 arg4 harg4 arg5 harg5 v17 v20 v23 v26 v29 X ⟨k, by rw [trips_eq]; omega⟩]
    exact h

/-- After the loop every row of such a column holds its divisor. -/
theorem loop_after {l : Fin 128} (hX : ∀ t : Fin 256, arg4.view.read (Elt Ideal) X (ix2 t l) = ((s t : ℝ) : EReal)) (t : Fin 256) :
    arg5.view.read (Elt Ideal) (arg5.view.writes (Elt Ideal) f
        (before c i arg1 harg1 arg2 harg2 arg3 harg3 arg4 harg4 arg5 harg5 v17 v20 v23 v26 v29 X
          (Scf.trips k0_t1_loop.lb k0_t1_loop.ub k0_t1_loop.st)).2) (ix2 t l)
      = ((Maths.scale decayR floorR s t : ℝ) : EReal) := by
  rw [show Scf.trips k0_t1_loop.lb k0_t1_loop.ub k0_t1_loop.st = 32 from trips_eq]
  exact (loop_before c i arg1 harg1 arg2 harg2 arg3 harg3 arg4 harg4 arg5 harg5 v17 v20 v23 v26 v29 X f hX 32 le_rfl).2 t (by omega)

end

end Cert.KernelIdeal.Hand

end
-- ==== Proof.KernelValue.lean ====
/-
  The kernel's result over the reals: its stores into the output are the specification's rows, whatever its scratch buffers held.
-/
module

public import proofs.«01_k».proof.Proof.KernelLoop
import all proofs.«01_k».proof.Proof.KernelIdealBody

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic

/-- The packed operand holds the inputs, then `Dx`, then `Dy`, then `E` with its rows and columns exchanged. -/
structure Packed (W : Weights) (w : Fin 8 → ℕ → Fin 256 → ℝ) (P : S5120x256.Idx → EReal) : Prop where
  rows (b : Fin 8) (t d : Fin 256) : P (ix2 ⟨256 * b + t, by omega⟩ d) = ((w b t d : ℝ) : EReal)
  dx (n : Fin 1024) (d : Fin 256) : P (ix2 ⟨2048 + n, by omega⟩ d) = ((W.dx n d : ℝ) : EReal)
  dy (n : Fin 1024) (d : Fin 256) : P (ix2 ⟨3072 + n, by omega⟩ d) = ((W.dy n d : ℝ) : EReal)
  e (n : Fin 1024) (d : Fin 256) : P (ix2 ⟨4096 + n, by omega⟩ d) = ((W.e d n : ℝ) : EReal)

variable {W : Weights} {w : Fin 8 → ℕ → Fin 256 → ℝ}

/-! ## The states' buffer -/

section
variable (arg3 : Memref sig .tc .vmem S2048x1024 .f32)

/-- What the buffer of states reads as after the stores `L`. -/
def seen (L : List (View.Piece (Elt Ideal) S2048x1024 .f32)) : S2048x1024.Idx → EReal :=
  arg3.view.read (Elt Ideal) (arg3.view.writes (Elt Ideal) arg3.view.junk L)

/-- The first `k` batch rows hold their states, the others still their updates. -/
def Reached (W : Weights) (w : Fin 8 → ℕ → Fin 256 → ℝ) (k : ℕ) (L : List (View.Piece (Elt Ideal) S2048x1024 .f32)) : Prop :=
  ∀ (b : Fin 8) (t : Fin 256) (n : Fin 1024), seen arg3 L (ix2 ⟨256 * b + t, by omega⟩ n)
    = ((if (b : ℕ) < k then next W (w b) (t + 1) n else W.update (w b t) n : ℝ) : EReal)

variable {arg3}

theorem fetch {L : List (View.Piece (Elt Ideal) S2048x1024 .f32)} (b : Fin 8) {k : ℕ} (hL : Reached arg3 W w k L) (hk : k ≤ b)
    {off : Fin 2 → ℕ} (hoff : off = ![256 * (b : ℕ), 0]) {inb} (t : Fin 256) (n : Fin 1024) :
    arg3.view.readCov L (Rect.unit (s := S2048x1024) off S256x1024.size inb).toLoadRect (ix2 t n) = ((W.update (w b t) n : ℝ) : EReal) := by
  subst hoff
  refine Eq.trans ?_ ((hL b t n).trans (by rw [if_neg (by omega)]))
  refine congrArg (seen arg3 L) (funext fun a => Fin.ext ?_)
  match a with
  | 0 => show 256 * (b : ℕ) + 1 * (t : ℕ) = 256 * b + t; omega
  | 1 => show 0 + 1 * (n : ℕ) = n; omega

theorem put {L : List (View.Piece (Elt Ideal) S2048x1024 .f32)} (b : Fin 8) (hL : Reached arg3 W w b L) {off : Fin 2 → ℕ}
    (hoff : off = ![256 * (b : ℕ), 0]) {inb} {x : FVec Ideal S256x1024 .f32}
    (hx : ∀ (t : Fin 256) n, x (ix2 t n) = ((next W (w b) (t + 1) n : ℝ) : EReal)) :
    Reached arg3 W w (b + 1) (⟨Rect.unit (s := S2048x1024) off S256x1024.size inb, x⟩ :: L) := by
  intro b' t n
  by_cases h : b' = b
  · subst h
    refine Eq.trans ?_ ((hx t n).trans (by rw [if_pos (Nat.lt_succ_self _)]))
    refine read_inside arg3.view arg3.view.junk x L (ix2 t n) (ix2 ⟨256 * b' + t, by omega⟩ n) fun a => ?_
    refine Eq.trans ?_ (congrArg (· + ((ix2 t n : S256x1024.Idx) a : ℕ)) (congrFun hoff a)).symm
    match a with
    | 0 => rfl
    | 1 => exact (Nat.zero_add _).symm
  · have hne : (b' : ℕ) ≠ b := fun e => h (Fin.ext e)
    have h0 : off 0 = 256 * (b : ℕ) := congrFun hoff 0
    refine Eq.trans ?_ ((hL b' t n).trans ?_)
    · refine read_outside arg3.view arg3.view.junk x L (ix2 ⟨256 * b' + t, by omega⟩ n) 0 ?_
      show 256 * (b' : ℕ) + t < off 0 ∨ off 0 + 256 ≤ 256 * (b' : ℕ) + t
      omega
    · simp only [show ((b' : ℕ) < b + 1) ↔ ((b' : ℕ) < b) by omega]

end

section
variable (c : Dev nD) (i : grid0.Coords) {arg1 : Memref sig .tc .vmem S5120x256 .f32} (harg1 : arg1.IsWhole)
    {arg2 : Memref sig .tc .vmem S8x256x256 .f32} (harg2 : arg2.IsWhole) {arg3 : Memref sig .tc .vmem S2048x1024 .f32} (harg3 : arg3.IsWhole)
    {arg4 : Memref sig .tc .vmem S256x128 .f32} (harg4 : arg4.IsWhole) {arg5 : Memref sig .tc .vmem S256x128 .f32} (harg5 : arg5.IsWhole)
    (p : BufTy.Contents (Elt Ideal) arg1.view.ty) (f4 : BufTy.Contents (Elt Ideal) arg4.view.ty) (f5 : BufTy.Contents (Elt Ideal) arg5.view.ty)

variable {p}

theorem updates_value (hP : Packed W w (arg1.view.read (Elt Ideal) p)) (b : Fin 8) (t : Fin 256) (n : Fin 1024) :
    kernelRun.sl.v14 (F := Ideal) arg1 p (ix2 ⟨256 * b + t, by omega⟩ n) = ((W.update (w b t) n : ℝ) : EReal) := by
  unfold kernelRun.sl.v14 kernelRun.sl.v11 kernelRun.sl.v10 kernelRun.sl.v9 kernelRun.sl.v1 kernelRun.sl.v4 kernelRun.sl.cst kernelRun.sl.cst_4
  simp only [View.readAt_eq_ld]
  pointwise
  simp only [hP.rows, hP.dx, ← EReal.coe_mul, sum_coe, max_zero_coe]
  rfl

theorem reached_zero (hP : Packed W w (arg1.view.read (Elt Ideal) p)) : Reached arg3 W w 0 (kernelRun.sl.H3_1 (F := Ideal) arg1 p) := by
  intro b t n
  rw [if_neg (Nat.not_lt_zero _), ← updates_value hP b t n]
  unfold seen kernelRun.sl.H3_1
  refine read_inside arg3.view arg3.view.junk _ [] (ix2 _ n) _ fun a => ?_
  match a with
  | 0 => exact (Nat.zero_add _).symm
  | 1 => exact (Nat.zero_add _).symm

theorem row_sum {x : FVec Ideal S256x1024 .f32} {w' : ℕ → Fin 256 → ℝ} (h : ∀ (t : Fin 256) n, x (ix2 t n) = ((W.update (w' t) n : ℝ) : EReal))
    (t : Fin 256) : ∑ n, x (ix2 t n) = ((gain W w' t : ℝ) : EReal) := by
  simp only [h, sum_coe]
  rfl

/-- The gains of a batch row as a column. -/
theorem gain_value {x : FVec Ideal S256x1024 .f32} {w' : ℕ → Fin 256 → ℝ} (h : ∀ (t : Fin 256) n, x (ix2 t n) = ((W.update (w' t) n : ℝ) : EReal))
    (t : Fin 256) : shapeCast S256x1 (multiReduction .add [1] S256 x 0x00000000#32 reduces_S256x1024_S256 (.inl rfl) rfl) shapeCasts_S256_S256x1
      (ix2 t 0) = ((gain W w' t : ℝ) : EReal) := by
  pointwise
  exact row_sum h t

/-- The columns of the gains. -/
abbrev gains (arg1 : Memref sig .tc .vmem S5120x256 .f32) (arg3 : Memref sig .tc .vmem S2048x1024 .f32)
    (p : BufTy.Contents (Elt Ideal) arg1.view.ty) : FVec Ideal S256x8 .f32 :=
  k0_pay27 (kernelRun.sl.v17 arg1 arg3 p) (kernelRun.sl.v20 arg1 arg3 p) (kernelRun.sl.v23 arg1 arg3 p) (kernelRun.sl.v26 arg1 arg3 p)
    (kernelRun.sl.v29 arg1 arg3 p) (kernelRun.sl.v30 arg1 arg3 p) (kernelRun.sl.v33 arg1 arg3 p) (kernelRun.sl.v36 arg1 arg3 p)

theorem gains_value (hP : Packed W w (arg1.view.read (Elt Ideal) p)) (t : Fin 256) (b : Fin 8) :
    gains arg1 arg3 p (ix2 t b) = ((gain W (w b) t : ℝ) : EReal) := by
  have h := reached_zero (arg3 := arg3) hP
  unfold gains k0_pay27
  pointwise
  match b with
  | 0 => exact gain_value (fun t n => fetch 0 h (Nat.zero_le _) rfl t n) t
  | 1 => exact gain_value (fun t n => fetch 1 h (Nat.zero_le _) rfl t n) t
  | 2 => exact gain_value (fun t n => fetch 2 h (Nat.zero_le _) rfl t n) t
  | 3 => exact gain_value (fun t n => fetch 3 h (Nat.zero_le _) rfl t n) t
  | 4 => exact gain_value (fun t n => fetch 4 h (Nat.zero_le _) rfl t n) t
  | 5 => exact row_sum (fun t n => fetch 5 h (Nat.zero_le _) rfl t n) t
  | 6 => exact row_sum (fun t n => fetch 6 h (Nat.zero_le _) rfl t n) t
  | 7 => exact row_sum (fun t n => fetch 7 h (Nat.zero_le _) rfl t n) t

/-- What the loop's gains read as: column `b` holds batch row `b`'s. -/
theorem gains_seen (hP : Packed W w (arg1.view.read (Elt Ideal) p)) (b : Fin 8) (t : Fin 256) :
    arg4.view.read (Elt Ideal) (arg4.view.writes (Elt Ideal) f4
        [⟨Rect.unit (s := S256x128) ![0, 0] S256x8.size inb_S256x128_S256x8_0_0, gains arg1 arg3 p⟩]) (ix2 t ⟨b, by omega⟩)
      = ((gain W (w b) t : ℝ) : EReal) := by
  refine (read_inside arg4.view f4 (gains arg1 arg3 p) [] (ix2 t b) (ix2 t ⟨b, by omega⟩) fun a => ?_).trans (gains_value hP t b)
  match a with
  | 0 => exact (Nat.zero_add _).symm
  | 1 => exact (Nat.zero_add _).symm

variable (p) in
/-- The divisors as the loop leaves them. -/
def table : S256x128.Idx → EReal :=
  arg5.view.read (Elt Ideal) (arg5.view.writes (Elt Ideal) f5
    (before c i arg1 harg1 arg2 harg2 arg3 harg3 arg4 harg4 arg5 harg5 (kernelRun.sl.v17 arg1 arg3 p) (kernelRun.sl.v20 arg1 arg3 p)
      (kernelRun.sl.v23 arg1 arg3 p) (kernelRun.sl.v26 arg1 arg3 p) (kernelRun.sl.v29 arg1 arg3 p) (arg4.view.writes (Elt Ideal) f4
        [⟨Rect.unit (s := S256x128) ![0, 0] S256x8.size inb_S256x128_S256x8_0_0, gains arg1 arg3 p⟩])
      (Scf.trips k0_t1_loop.lb k0_t1_loop.ub k0_t1_loop.st)).2)

theorem table_value (hP : Packed W w (arg1.view.read (Elt Ideal) p)) (b : Fin 8) (t : Fin 256) :
    table c i harg1 harg2 harg3 harg4 harg5 p f4 f5 (ix2 t ⟨b, by omega⟩) = ((divisor W (w b) t : ℝ) : EReal) :=
  loop_after (s := gain W (w b)) c i arg1 harg1 arg2 harg2 arg3 harg3 arg4 harg4 arg5 harg5 _ _ _ _ _ _ f5 (gains_seen f4 hP b) t

theorem column_value (hP : Packed W w (arg1.view.read (Elt Ideal) p)) (b : Fin 8) {off : Fin 2 → ℕ} (hoff : off = ![0, (b : ℕ)]) {inb}
    (t : Fin 256) : View.ld (Val := Elt Ideal) (e' := .f32) (table c i harg1 harg2 harg3 harg4 harg5 p f4 f5) (Rect.unit (s := S256x128) off S256x1.size inb) (ix2 t 0)
      = ((divisor W (w b) t : ℝ) : EReal) := by
  refine Eq.trans ?_ (table_value c i harg1 harg2 harg3 harg4 harg5 f4 f5 hP b t)
  subst hoff
  refine congrArg (table c i harg1 harg2 harg3 harg4 harg5 p f4 f5) (funext fun a => Fin.ext ?_)
  match a with
  | 0 => show 0 + 1 * (t : ℕ) = t; omega
  | 1 => show (b : ℕ) + 1 * 0 = b; omega

theorem divisors_value (hP : Packed W w (arg1.view.read (Elt Ideal) p)) (b : Fin 8) (t : Fin 256) :
    kernelRun.sl.v66 (F := Ideal) c i arg1 harg1 arg2 harg2 arg3 harg3 arg4 harg4 arg5 harg5 p f4 f5 (ix2 t ⟨b, by omega⟩) = ((divisor W (w b) t : ℝ) : EReal) := by
  refine Eq.trans ?_ (table_value c i harg1 harg2 harg3 harg4 harg5 f4 f5 hP b t)
  refine congrArg (table c i harg1 harg2 harg3 harg4 harg5 p f4 f5) (funext fun a => Fin.ext ?_)
  match a with
  | 0 => show 0 + 1 * (t : ℕ) = t; omega
  | 1 => show 0 + 1 * (b : ℕ) = b; omega

theorem log_value (hP : Packed W w (arg1.view.read (Elt Ideal) p)) (b : Fin 8) (t : Fin 256) :
    kernelRun.sl.v67 (F := Ideal) c i arg1 harg1 arg2 harg2 arg3 harg3 arg4 harg4 arg5 harg5 p f4 f5 (ix2 t ⟨b, by omega⟩) = ((Real.log (divisor W (w b) t) : ℝ) : EReal) := by
  unfold kernelRun.sl.v67
  pointwise
  rw [divisors_value c i harg1 harg2 harg3 harg4 harg5 f4 f5 hP b t, log_coe (divisor_pos ..)]

theorem running_value (hP : Packed W w (arg1.view.read (Elt Ideal) p)) (b : Fin 8) (t : Fin 256) :
    kernelRun.sl.v68 (F := Ideal) c i arg1 harg1 arg2 harg2 arg3 harg3 arg4 harg4 arg5 harg5 p f4 f5 (ix2 t ⟨b, by omega⟩) = ((running W (w b) t : ℝ) : EReal) := by
  unfold kernelRun.sl.v68 kernelRun.sl.cst_37
  pointwise
  simp only [log_value c i harg1 harg2 harg3 harg4 harg5 f4 f5 hP b, pay34_apply, ← EReal.coe_mul, sum_coe, ite_mul, one_mul, zero_mul]
  rw [running, Maths.logs, ← Maths.sum_through t]
  rfl

theorem difference_value (hP : Packed W w (arg1.view.read (Elt Ideal) p)) (b : Fin 8) (t : Fin 256) :
    kernelRun.sl.v70 (F := Ideal) c i arg1 harg1 arg2 harg2 arg3 harg3 arg4 harg4 arg5 harg5 p f4 f5 (ix2 ⟨b, by omega⟩ t)
      = ((running W (w b) t - Real.log (divisor W (w b) t) : ℝ) : EReal) := by
  unfold kernelRun.sl.v70 kernelRun.sl.v69
  pointwise
  rw [log_value c i harg1 harg2 harg3 harg4 harg5 f4 f5 hP b t, running_value c i harg1 harg2 harg3 harg4 harg5 f4 f5 hP b t, ← EReal.coe_sub]

/-- Batch row `b`'s turn: its states, and the buffer with them in it. -/
theorem turn (hP : Packed W w (arg1.view.read (Elt Ideal) p)) (b : Fin 8) {L : List (View.Piece (Elt Ideal) S2048x1024 .f32)}
    (hL : Reached arg3 W w b L) {off off' : Fin 2 → ℕ} (hoff : off = ![256 * (b : ℕ), 0]) (hoff' : off' = ![0, (b : ℕ)]) {inb inb' inb''}
    {x y : FVec Ideal S256x1024 .f32} (hy : y = shapeCast S256x1024 x shapeCasts_S256x1024_S256x1024)
    (hx : x = chunk b (kernelRun.sl.v68 (F := Ideal) c i arg1 harg1 arg2 harg2 arg3 harg3 arg4 harg4 arg5 harg5 p f4 f5) (kernelRun.sl.v70 (F := Ideal) c i arg1 harg1 arg2 harg2 arg3 harg3 arg4 harg4 arg5 harg5 p f4 f5)
      (arg3.view.readCov L (Rect.unit (s := S2048x1024) off S256x1024.size inb).toLoadRect)
      (View.ld (Val := Elt Ideal) (e' := .f32) (table c i harg1 harg2 harg3 harg4 harg5 p f4 f5) (Rect.unit (s := S256x128) off' S256x1.size inb'))) :
    (∀ (t : Fin 256) n, x (ix2 t n) = ((next W (w b) (t + 1) n : ℝ) : EReal))
      ∧ Reached arg3 W w (b + 1) (⟨Rect.unit (s := S2048x1024) off S256x1024.size inb'', y⟩ :: L) := by
  have h (t : Fin 256) (n : Fin 1024) : x (ix2 t n) = ((next W (w b) (t + 1) n : ℝ) : EReal) := by
    rw [hx]
    exact chunk_value (running_value c i harg1 harg2 harg3 harg4 harg5 f4 f5 hP b) (difference_value c i harg1 harg2 harg3 harg4 harg5 f4 f5 hP b)
      (fun t n => fetch b hL le_rfl hoff t n) (column_value c i harg1 harg2 harg3 harg4 harg5 f4 f5 hP b hoff') t n
  refine ⟨h, put b hL hoff fun t n => ?_⟩
  rw [hy]
  pointwise
  exact h t n

/-- All eight turns. -/
structure Turns (W : Weights) (w : Fin 8 → ℕ → Fin 256 → ℝ) (p : BufTy.Contents (Elt Ideal) arg1.view.ty) : Prop where
  states0 (t : Fin 256) (n : Fin 1024) : kernelRun.sl.v85 (F := Ideal) c i arg1 harg1 arg2 harg2 arg3 harg3 arg4 harg4 arg5 harg5 p f4 f5 (ix2 t n) = ((next W (w 0) (t + 1) n : ℝ) : EReal)
  states1 (t : Fin 256) (n : Fin 1024) : kernelRun.sl.v126 (F := Ideal) c i arg1 harg1 arg2 harg2 arg3 harg3 arg4 harg4 arg5 harg5 p f4 f5 (ix2 t n) = ((next W (w 1) (t + 1) n : ℝ) : EReal)
  states2 (t : Fin 256) (n : Fin 1024) : kernelRun.sl.v167 (F := Ideal) c i arg1 harg1 arg2 harg2 arg3 harg3 arg4 harg4 arg5 harg5 p f4 f5 (ix2 t n) = ((next W (w 2) (t + 1) n : ℝ) : EReal)
  states3 (t : Fin 256) (n : Fin 1024) : kernelRun.sl.v208 (F := Ideal) c i arg1 harg1 arg2 harg2 arg3 harg3 arg4 harg4 arg5 harg5 p f4 f5 (ix2 t n) = ((next W (w 3) (t + 1) n : ℝ) : EReal)
  states4 (t : Fin 256) (n : Fin 1024) : kernelRun.sl.v249 (F := Ideal) c i arg1 harg1 arg2 harg2 arg3 harg3 arg4 harg4 arg5 harg5 p f4 f5 (ix2 t n) = ((next W (w 4) (t + 1) n : ℝ) : EReal)
  states5 (t : Fin 256) (n : Fin 1024) : kernelRun.sl.v290 (F := Ideal) c i arg1 harg1 arg2 harg2 arg3 harg3 arg4 harg4 arg5 harg5 p f4 f5 (ix2 t n) = ((next W (w 5) (t + 1) n : ℝ) : EReal)
  states6 (t : Fin 256) (n : Fin 1024) : kernelRun.sl.v331 (F := Ideal) c i arg1 harg1 arg2 harg2 arg3 harg3 arg4 harg4 arg5 harg5 p f4 f5 (ix2 t n) = ((next W (w 6) (t + 1) n : ℝ) : EReal)
  states7 (t : Fin 256) (n : Fin 1024) : kernelRun.sl.v372 (F := Ideal) c i arg1 harg1 arg2 harg2 arg3 harg3 arg4 harg4 arg5 harg5 p f4 f5 (ix2 t n) = ((next W (w 7) (t + 1) n : ℝ) : EReal)
  filled : Reached arg3 W w 8 (kernelRun.sl.H3_9 (F := Ideal) c i arg1 harg1 arg2 harg2 arg3 harg3 arg4 harg4 arg5 harg5 p f4 f5)

theorem turns (hP : Packed W w (arg1.view.read (Elt Ideal) p)) : Turns c i harg1 harg2 harg3 harg4 harg5 f4 f5 W w p := by
  have h0 : Reached arg3 W w 0 (kernelRun.sl.H3_1 (F := Ideal) arg1 p) := reached_zero hP
  obtain ⟨x0, h1⟩ := turn c i harg1 harg2 harg3 harg4 harg5 f4 f5 hP 0 h0 (x := kernelRun.sl.v85 (F := Ideal) c i arg1 harg1 arg2 harg2 arg3 harg3 arg4 harg4 arg5 harg5 p f4 f5)
    (y := kernelRun.sl.v88 (F := Ideal) c i arg1 harg1 arg2 harg2 arg3 harg3 arg4 harg4 arg5 harg5 p f4 f5) rfl rfl rfl rfl
  obtain ⟨x1, h2⟩ := turn c i harg1 harg2 harg3 harg4 harg5 f4 f5 hP 1 h1 (x := kernelRun.sl.v126 (F := Ideal) c i arg1 harg1 arg2 harg2 arg3 harg3 arg4 harg4 arg5 harg5 p f4 f5)
    (y := kernelRun.sl.v129 (F := Ideal) c i arg1 harg1 arg2 harg2 arg3 harg3 arg4 harg4 arg5 harg5 p f4 f5) rfl rfl rfl rfl
  obtain ⟨x2, h3⟩ := turn c i harg1 harg2 harg3 harg4 harg5 f4 f5 hP 2 h2 (x := kernelRun.sl.v167 (F := Ideal) c i arg1 harg1 arg2 harg2 arg3 harg3 arg4 harg4 arg5 harg5 p f4 f5)
    (y := kernelRun.sl.v170 (F := Ideal) c i arg1 harg1 arg2 harg2 arg3 harg3 arg4 harg4 arg5 harg5 p f4 f5) rfl rfl rfl rfl
  obtain ⟨x3, h4⟩ := turn c i harg1 harg2 harg3 harg4 harg5 f4 f5 hP 3 h3 (x := kernelRun.sl.v208 (F := Ideal) c i arg1 harg1 arg2 harg2 arg3 harg3 arg4 harg4 arg5 harg5 p f4 f5)
    (y := kernelRun.sl.v211 (F := Ideal) c i arg1 harg1 arg2 harg2 arg3 harg3 arg4 harg4 arg5 harg5 p f4 f5) rfl rfl rfl rfl
  obtain ⟨x4, h5⟩ := turn c i harg1 harg2 harg3 harg4 harg5 f4 f5 hP 4 h4 (x := kernelRun.sl.v249 (F := Ideal) c i arg1 harg1 arg2 harg2 arg3 harg3 arg4 harg4 arg5 harg5 p f4 f5)
    (y := kernelRun.sl.v252 (F := Ideal) c i arg1 harg1 arg2 harg2 arg3 harg3 arg4 harg4 arg5 harg5 p f4 f5) rfl rfl rfl rfl
  obtain ⟨x5, h6⟩ := turn c i harg1 harg2 harg3 harg4 harg5 f4 f5 hP 5 h5 (x := kernelRun.sl.v290 (F := Ideal) c i arg1 harg1 arg2 harg2 arg3 harg3 arg4 harg4 arg5 harg5 p f4 f5)
    (y := kernelRun.sl.v293 (F := Ideal) c i arg1 harg1 arg2 harg2 arg3 harg3 arg4 harg4 arg5 harg5 p f4 f5) rfl rfl rfl rfl
  obtain ⟨x6, h7⟩ := turn c i harg1 harg2 harg3 harg4 harg5 f4 f5 hP 6 h6 (x := kernelRun.sl.v331 (F := Ideal) c i arg1 harg1 arg2 harg2 arg3 harg3 arg4 harg4 arg5 harg5 p f4 f5)
    (y := kernelRun.sl.v334 (F := Ideal) c i arg1 harg1 arg2 harg2 arg3 harg3 arg4 harg4 arg5 harg5 p f4 f5) rfl rfl rfl rfl
  obtain ⟨x7, h8⟩ := turn c i harg1 harg2 harg3 harg4 harg5 f4 f5 hP 7 h7 (x := kernelRun.sl.v372 (F := Ideal) c i arg1 harg1 arg2 harg2 arg3 harg3 arg4 harg4 arg5 harg5 p f4 f5)
    (y := kernelRun.sl.v375 (F := Ideal) c i arg1 harg1 arg2 harg2 arg3 harg3 arg4 harg4 arg5 harg5 p f4 f5) rfl rfl rfl rfl
  exact ⟨x0, x1, x2, x3, x4, x5, x6, x7, h8⟩

end

end Cert.KernelIdeal.Hand

end
-- ==== Proof.KernelResult.lean ====
/-
  The kernel's one result over the reals: the recalled rows of all batch rows, their emission through `Dy` and `E`, and what the
  kernel's store into the output reads as, whatever its scratch buffers held.
-/
module

public import proofs.«01_k».proof.Proof.KernelValue
import all proofs.«01_k».proof.Proof.KernelIdealBody

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic

variable {W : Weights} {w : Fin 8 → ℕ → Fin 256 → ℝ}

/-! ## The rows of all batch rows at once -/

/-- The rows less their means. -/
def tallCentred (r : FVec Ideal S2048x256 .f32) : FVec Ideal S2048x256 .f32 :=
  subf r (broadcastTo S2048x256 (divf (shapeCast S2048x1 (multiReduction .add [1] S2048 r 0x00000000#32 reduces_S2048x256_S2048 (.inl rfl) rfl)
    shapeCasts_S2048_S2048x1) (broadcast S2048x1 (FloatOps.ofBits .f32 0x43800000#32))) broadcasts_S2048x1_S2048x256)

/-- The rows normalised. -/
def tallNormed (r : FVec Ideal S2048x256 .f32) : FVec Ideal S2048x256 .f32 :=
  mulf (tallCentred r) (broadcastTo S2048x256 (rsqrt (addf (divf (shapeCast S2048x1 (multiReduction .add [1] S2048
      (mulf (tallCentred r) (tallCentred r)) 0x00000000#32 reduces_S2048x256_S2048 (.inl rfl) rfl) shapeCasts_S2048_S2048x1)
      (broadcast S2048x1 (FloatOps.ofBits .f32 0x43800000#32))) (broadcast S2048x1 (FloatOps.ofBits .f32 0x3727C5AC#32))))
    broadcasts_S2048x1_S2048x256)

theorem tallNormed_value {r : FVec Ideal S2048x256 .f32} (s : Fin 2048) {z : Fin 256 → ℝ}
    (h : ∀ d, r (ix2 s d) = ((z d : ℝ) : EReal)) (d : Fin 256) : tallNormed r (ix2 s d) = ((unit z d : ℝ) : EReal) := by
  unfold tallNormed tallCentred
  pointwise
  simp only [h, ← EReal.coe_sub, ← EReal.coe_mul, sum_coe, width_coe, rsqrt_var_coe]
  rfl

/-- What the recalled rows `a` and the states `x` emit. -/
def emitted (dy e : FVec Ideal S1024x256 .f32) (a : FVec Ideal S2048x256 .f32) (x : FVec Ideal S2048x1024 .f32) : FVec Ideal S2048x256 .f32 :=
  matmul dot_S2048x1024_S1024x256_S2048x256_1_0_0_1_n_n none
    (mulf (maximumf (matmul dot_S2048x256_S1024x256_S2048x1024_1_1_0_0_n_n none (tallNormed a) dy (constant S2048x1024 .f32 0x00000000#32))
      (broadcast S2048x1024 (FloatOps.ofBits .f32 0x00000000#32))) x) e (constant S2048x256 .f32 0x00000000#32)

theorem emitted_value {dy e : FVec Ideal S1024x256 .f32} {a : FVec Ideal S2048x256 .f32} {x : FVec Ideal S2048x1024 .f32}
    (hy : ∀ (n : Fin 1024) (d : Fin 256), dy (ix2 n d) = ((W.dy n d : ℝ) : EReal))
    (he : ∀ (n : Fin 1024) (d : Fin 256), e (ix2 n d) = ((W.e d n : ℝ) : EReal)) (s : Fin 2048) {z : Fin 256 → ℝ} {q : Fin 1024 → ℝ}
    (ha : ∀ d, a (ix2 s d) = ((z d : ℝ) : EReal)) (hx : ∀ n, x (ix2 s n) = ((q n : ℝ) : EReal)) (d : Fin 256) :
    emitted dy e a x (ix2 s d) = ((W.emit z q d : ℝ) : EReal) := by
  unfold emitted
  pointwise
  simp only [tallNormed_value s ha, hy, he, hx, ← EReal.coe_mul, sum_coe, max_zero_coe]
  rfl

/-- Eight arrays of rows one after the other. -/
theorem stacked (X : Fin 8 → FVec Ideal S256x256 .f32) (b : Fin 8) (t d : Fin 256) :
    concatenate S2048x256 0 [⟨S256x256, X 0⟩, ⟨S256x256, X 1⟩, ⟨S256x256, X 2⟩, ⟨S256x256, X 3⟩, ⟨S256x256, X 4⟩, ⟨S256x256, X 5⟩,
        ⟨S256x256, X 6⟩, ⟨S256x256, X 7⟩]
        concatenates_S256x256_S256x256_S256x256_S256x256_S256x256_S256x256_S256x256_S256x256_S2048x256_d0 (ix2 ⟨256 * b + t, by omega⟩ d)
      = X b (ix2 t d) := by
  have pick (k : Fin 8) {s : ℕ} (hs : s < 256) (e : s + 256 * k.val = 256 * b + t) : X k (ix2 ⟨s, hs⟩ d) = X b (ix2 t d) := by
    obtain rfl : k = b := Fin.ext (by omega)
    obtain rfl : ⟨s, hs⟩ = t := Fin.ext (by show s = t; omega)
    rfl
  pointwise
  split
  · exact pick 0 _ (by show _ + 256 * 0 = _; omega)
  split
  · exact pick 1 _ (by show _ + 256 * 1 = _; omega)
  split
  · exact pick 2 _ (by show _ + 256 * 2 = _; omega)
  split
  · exact pick 3 _ (by show _ + 256 * 3 = _; omega)
  split
  · exact pick 4 _ (by show _ + 256 * 4 = _; omega)
  split
  · exact pick 5 _ (by show _ + 256 * 5 = _; omega)
  split
  · exact pick 6 _ (by show _ + 256 * 6 = _; omega)
  exact pick 7 _ (by show _ + 256 * 7 = _; omega)

/-- All rows as eight arrays of rows. -/
theorem unstacked (r : FVec Ideal S2048x256 .f32) (b : Fin 8) (t d : Fin 256) :
    shapeCast S8x256x256 r shapeCasts_S2048x256_S8x256x256 (ix3 b t d) = r (ix2 ⟨256 * b + t, by omega⟩ d) := by
  pointwise
  simp only [Nat.mul_comm (b : ℕ) 256]

/-! ## The result -/

section
variable (c : Dev nD) (i : grid0.Coords)
  {arg1 : Memref sig .tc .vmem S5120x256 .f32} (harg1 : arg1.IsWhole) {arg2 : Memref sig .tc .vmem S8x256x256 .f32} (harg2 : arg2.IsWhole)
  {arg3 : Memref sig .tc .vmem S2048x1024 .f32} (harg3 : arg3.IsWhole) {arg4 : Memref sig .tc .vmem S256x128 .f32} (harg4 : arg4.IsWhole)
  {arg5 : Memref sig .tc .vmem S256x128 .f32} (harg5 : arg5.IsWhole)
  {p : BufTy.Contents (Elt Ideal) arg1.view.ty} (f4 : BufTy.Contents (Elt Ideal) arg4.view.ty) (f5 : BufTy.Contents (Elt Ideal) arg5.view.ty)

theorem inputs_value (hP : Packed W w (arg1.view.read (Elt Ideal) p)) (b : Fin 8) (t d : Fin 256) :
    kernelRun.sl.v2 (F := Ideal) arg1 p (ix3 b t d) = ((w b t d : ℝ) : EReal) := by
  unfold kernelRun.sl.v2 kernelRun.sl.v1
  simp only [View.readAt_eq_ld]
  pointwise
  simp only [Nat.mul_comm (b : ℕ) 256, hP.rows]

theorem dy_value (hP : Packed W w (arg1.view.read (Elt Ideal) p)) (n : Fin 1024) (d : Fin 256) :
    kernelRun.sl.v6 (F := Ideal) arg1 p (ix2 n d) = ((W.dy n d : ℝ) : EReal) := by
  unfold kernelRun.sl.v6
  simp only [View.readAt_eq_ld]
  pointwise
  simp only [hP.dy]

theorem e_value (hP : Packed W w (arg1.view.read (Elt Ideal) p)) (n : Fin 1024) (d : Fin 256) :
    kernelRun.sl.v8 (F := Ideal) arg1 p (ix2 n d) = ((W.e d n : ℝ) : EReal) := by
  unfold kernelRun.sl.v8
  simp only [View.readAt_eq_ld]
  pointwise
  simp only [hP.e]

/-- The states of all batch rows, read back. -/
theorem states_value (hT : Turns c i harg1 harg2 harg3 harg4 harg5 f4 f5 W w p) (b : Fin 8) (t : Fin 256) (n : Fin 1024) :
    kernelRun.sl.v421 (F := Ideal) c i arg1 harg1 arg2 harg2 arg3 harg3 arg4 harg4 arg5 harg5 p f4 f5 (ix2 ⟨256 * b + t, by omega⟩ n) = ((next W (w b) (t + 1) n : ℝ) : EReal) := by
  refine Eq.trans ?_ ((hT.filled b t n).trans (by rw [if_pos b.isLt]))
  refine congrArg (seen arg3 _) (funext fun a => Fin.ext ?_)
  match a with
  | 0 => show 0 + 1 * (256 * (b : ℕ) + t) = 256 * b + t; omega
  | 1 => show 0 + 1 * (n : ℕ) = n; omega

/-- The recalled rows of all batch rows. -/
theorem recalled_value (hP : Packed W w (arg1.view.read (Elt Ideal) p)) (hT : Turns c i harg1 harg2 harg3 harg4 harg5 f4 f5 W w p)
    (b : Fin 8) (t d : Fin 256) :
    kernelRun.sl.v399 (F := Ideal) c i arg1 harg1 arg2 harg2 arg3 harg3 arg4 harg4 arg5 harg5 p f4 f5 (ix2 ⟨256 * b + t, by omega⟩ d) = ((recall W (w b) t d : ℝ) : EReal) := by
  refine (stacked ![kernelRun.sl.v111 (F := Ideal) c i arg1 harg1 arg2 harg2 arg3 harg3 arg4 harg4 arg5 harg5 p f4 f5, kernelRun.sl.v152 (F := Ideal) c i arg1 harg1 arg2 harg2 arg3 harg3 arg4 harg4 arg5 harg5 p f4 f5, kernelRun.sl.v193 (F := Ideal) c i arg1 harg1 arg2 harg2 arg3 harg3 arg4 harg4 arg5 harg5 p f4 f5, kernelRun.sl.v234 (F := Ideal) c i arg1 harg1 arg2 harg2 arg3 harg3 arg4 harg4 arg5 harg5 p f4 f5, kernelRun.sl.v275 (F := Ideal) c i arg1 harg1 arg2 harg2 arg3 harg3 arg4 harg4 arg5 harg5 p f4 f5, kernelRun.sl.v316 (F := Ideal) c i arg1 harg1 arg2 harg2 arg3 harg3 arg4 harg4 arg5 harg5 p f4 f5, kernelRun.sl.v357 (F := Ideal) c i arg1 harg1 arg2 harg2 arg3 harg3 arg4 harg4 arg5 harg5 p f4 f5, kernelRun.sl.v398 (F := Ideal) c i arg1 harg1 arg2 harg2 arg3 harg3 arg4 harg4 arg5 harg5 p f4 f5] b t d).trans ?_
  match b with
  | 0 => exact gather_value (b := 0) hT.states0 (inputs_value hP 0) t d
  | 1 => exact gather_value (b := 1) hT.states1 (inputs_value hP 1) t d
  | 2 => exact gather_value (b := 2) hT.states2 (inputs_value hP 2) t d
  | 3 => exact gather_value (b := 3) hT.states3 (inputs_value hP 3) t d
  | 4 => exact gather_value (b := 4) hT.states4 (inputs_value hP 4) t d
  | 5 => exact gather_value (b := 5) hT.states5 (inputs_value hP 5) t d
  | 6 => exact gather_value (b := 6) hT.states6 (inputs_value hP 6) t d
  | 7 => exact gather_value (b := 7) hT.states7 (inputs_value hP 7) t d

/-- The contents of the output after the kernel's store. -/
theorem result_value (hP : Packed W w (arg1.view.read (Elt Ideal) p)) (b : Fin 8) (t d : Fin 256) :
    k0_pay1 (F := Ideal) (kernelRun.sl.v6 arg1 p) (kernelRun.sl.v8 arg1 p) (kernelRun.sl.v399 c i arg1 harg1 arg2 harg2 arg3 harg3 arg4 harg4 arg5 harg5 p f4 f5)
        (kernelRun.sl.v410 c i arg1 harg1 arg2 harg2 arg3 harg3 arg4 harg4 arg5 harg5 p f4 f5) (kernelRun.sl.v404 c i arg1 harg1 arg2 harg2 arg3 harg3 arg4 harg4 arg5 harg5 p f4 f5) (kernelRun.sl.v421 c i arg1 harg1 arg2 harg2 arg3 harg3 arg4 harg4 arg5 harg5 p f4 f5) (ix3 b t d)
      = ((out W (w b) t d : ℝ) : EReal) := by
  have hT := turns c i harg1 harg2 harg3 harg4 harg5 f4 f5 hP
  show shapeCast S8x256x256 (tallNormed (emitted (kernelRun.sl.v6 (F := Ideal) arg1 p) (kernelRun.sl.v8 (F := Ideal) arg1 p)
    (kernelRun.sl.v399 (F := Ideal) c i arg1 harg1 arg2 harg2 arg3 harg3 arg4 harg4 arg5 harg5 p f4 f5) (kernelRun.sl.v421 (F := Ideal) c i arg1 harg1 arg2 harg2 arg3 harg3 arg4 harg4 arg5 harg5 p f4 f5))) shapeCasts_S2048x256_S8x256x256 (ix3 b t d) = _
  rw [unstacked]
  exact tallNormed_value _ (fun d => emitted_value (dy_value hP) (e_value hP) _ (fun d => recalled_value c i harg1 harg2 harg3 harg4 harg5 f4 f5 hP hT b t d)
    (fun n => states_value c i harg1 harg2 harg3 harg4 harg5 f4 f5 hT b t n) d) d

end

end Cert.KernelIdeal.Hand

end
-- ==== Proof.KernelRun.lean ====
/-
  The idealized kernel's run over the reals: the operand its host operations pack, the output its one point stores, and the result
  array it ends with.
-/
module

public import proofs.«01_k».proof.Proof.KernelResult
public import Idealize.ShloMosaic.Lib.Pipeline.ArrRel
public import Idealize.ShloMosaic.Lib.Pipeline.ValueKit
public import Idealize.ShloMosaic.Lib.StableHlo.ReadAt
import all proofs.«01_k».proof.Proof.KernelIdealBody

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic

variable {W : Weights} {w : Fin 8 → ℕ → Fin 256 → ℝ}
variable (m : (ℓ : Loc nD τ sig) → Buf (Elt Ideal) ℓ) (c : Dev nD)

/-- The operand the host operations leave: the inputs as rows, `Dx`, `Dy` and the exchanged `E`, one after the other. -/
def operand (v : FVec Ideal S8x256x256 .f32) (e : FVec Ideal S256x1024 .f32) (dx dy : FVec Ideal S1024x256 .f32) : FVec Ideal S5120x256 .f32 :=
  concatenate S5120x256 0 [⟨S2048x256, shapeCast S2048x256 v shapeCasts_S8x256x256_S2048x256⟩, ⟨S1024x256, dx⟩, ⟨S1024x256, dy⟩,
    ⟨S1024x256, transpose S1024x256 [1, 0] e transposes_S256x1024_S1024x256_1_0⟩] concatenates_S2048x256_S1024x256_S1024x256_S1024x256_S5120x256_d0

/-- It is packed as the kernel reads it. -/
theorem operand_packed {v : FVec Ideal S8x256x256 .f32} {e : FVec Ideal S256x1024 .f32} {dx dy : FVec Ideal S1024x256 .f32}
    (hv : ∀ (b : Fin 8) (t d : Fin 256), v (ix3 b t d) = ((w b t d : ℝ) : EReal))
    (he : ∀ (d : Fin 256) (n : Fin 1024), e (ix2 d n) = ((W.e d n : ℝ) : EReal))
    (hx : ∀ (n : Fin 1024) (d : Fin 256), dx (ix2 n d) = ((W.dx n d : ℝ) : EReal))
    (hy : ∀ (n : Fin 1024) (d : Fin 256), dy (ix2 n d) = ((W.dy n d : ℝ) : EReal)) : Packed W w (operand v e dx dy) where
  rows b t d := by
    rw [← hv b t d]
    unfold operand
    pointwise
    rw [dif_pos (by omega)]
  dx n d := by
    rw [← hx n d]
    unfold operand
    pointwise
  dy n d := by
    rw [← hy n d]
    unfold operand
    pointwise
    rw [dif_neg (by omega), dif_neg (by omega), dif_pos (by omega)]
    exact congrArg (fun s => dy (ix2 s d)) (Fin.ext (by show 3072 + (n : ℕ) - 2048 - 1024 = n; omega))
  e n d := by
    rw [← he d n]
    unfold operand
    pointwise
    rw [dif_neg (by omega), dif_neg (by omega), dif_neg (by omega)]
    exact congrArg (fun s => e (ix2 d s)) (Fin.ext (by show 4096 + (n : ℕ) - 2048 - 1024 - 1024 = n; omega))

theorem operand_eq : V m c main_v2 = operand (m ((c.tc : Thread nD τ).loc main_arg0)) (m ((c.tc : Thread nD τ).loc main_arg1))
    (m ((c.tc : Thread nD τ).loc main_arg2)) (m ((c.tc : Thread nD τ).loc main_arg3)) := by
  unfold V
  after_reads_simp
  rfl

/-- The operand's one block is the operand. -/
theorem iblk_read (t : Fin cfg0.N) (s : Fin 5120) (d : Fin 256) : iblk m c 0 t (ix2 s d) = V m c main_v2 (ix2 s d) := by
  have idx : ∀ t, win0_0.index t = ![0, 0] := (by decide +kernel : ∀ t : Fin grid0.N, win0_0.index t = ![0, 0])
  blk_ext [iblk, idx t]

theorem block_packed (hv : ∀ (b : Fin 8) (t d : Fin 256), m ((c.tc : Thread nD τ).loc main_arg0) (ix3 b t d) = ((w b t d : ℝ) : EReal))
    (he : ∀ (d : Fin 256) (n : Fin 1024), m ((c.tc : Thread nD τ).loc main_arg1) (ix2 d n) = ((W.e d n : ℝ) : EReal))
    (hx : ∀ (n : Fin 1024) (d : Fin 256), m ((c.tc : Thread nD τ).loc main_arg2) (ix2 n d) = ((W.dx n d : ℝ) : EReal))
    (hy : ∀ (n : Fin 1024) (d : Fin 256), m ((c.tc : Thread nD τ).loc main_arg3) (ix2 n d) = ((W.dy n d : ℝ) : EReal)) (t : Fin cfg0.N) :
    Packed W w (iblk m c 0 t) := by
  have h : Packed W w (V m c main_v2) := operand_eq m c ▸ operand_packed hv he hx hy
  exact ⟨fun b s d => (iblk_read m c t _ d).trans (h.rows b s d), fun n d => (iblk_read m c t _ d).trans (h.dx n d),
    fun n d => (iblk_read m c t _ d).trans (h.dy n d), fun n d => (iblk_read m c t _ d).trans (h.e n d)⟩

/-- What the point may leave in the output's buffer is the specification's rows. -/
theorem output_read (t : Fin cfg0.N) {X} (hX : Leaves m c 1 t X) (hP : Packed W w (iblk m c 0 t)) (b : Fin 8) (s d : Fin 256) :
    X (ix3 b s d) = ((out W (w b) s d : ℝ) : EReal) := by
  obtain ⟨p, f2, f4, f5, hp, rfl⟩ := hX
  rw [← hp] at hP
  rw [← result_value c (grid0.coords t) (inM_whole t) (outM_whole t) (Memref.isWhole_whole cc0_scratch0) (Memref.isWhole_whole cc0_scratch1)
    (Memref.isWhole_whole cc0_scratch2) f4 f5 hP b s d]
  refine read_inside (outM t).view f2 _ [] (ix3 b s d) (ix3 b s d) fun a => ?_
  match a with
  | 0 => exact (Nat.zero_add _).symm
  | 1 => exact (Nat.zero_add _).symm
  | 2 => exact (Nat.zero_add _).symm

/-- So is what the result array may hold after the run. -/
theorem array_read {G} (hG : ((dats m 0 c).toRRel marked (Leaves m c)).ArrAt 1 cfg0.N G)
    (hP : ∀ t, Packed W w (iblk m c 0 t)) (b : Fin 8) (s d : Fin 256) :
    G (ix3 b s d) = ((out W (w b) s d : ℝ) : EReal) := by
  obtain ⟨X, hX, hA⟩ := hG.emb_eq_of_wholeAt (t₀ := ⟨0, by decide⟩) (by decide +kernel)
  have hL := output_read m c _ (Pipeline.Dat.toRRel_leaves _ rfl hX) (hP _) b s d
  exact (hA (ix3 b s d)).trans hL

end Cert.KernelIdeal.Hand

end
-- ==== Proof.Reference.lean ====
/-
  The reference over the reals: before trip `k` its loop carries the state, the memory and the first `k` result rows of the
  specification, so after 256 trips its result is the specification's.
-/
module

public import Idealize.ShloMosaic.Lib.Tactic.CleanTypes
public import proofs.«01_k».proof.Proof.Gen.ReferenceIdeal.Run
public import proofs.«01_k».proof.Proof.Reals

@[expose] public section

set_option maxRecDepth 16384

noncomputable section

namespace Cert.ReferenceIdeal.Hand

open Cert.ReferenceIdeal Cert.ReferenceIdeal.Gen Cert.ReferenceIdeal.Value Cert.Proof
open Idealize.ShloMosaic Idealize.ShloMosaic.TcCoe Idealize.ShloMosaic.StableHlo

/-- What the loop carries before trip `k`. -/
structure Carried (W : Weights) (w : Fin 8 → ℕ → Fin 256 → ℝ) (k : ℕ) (V : Valuation τ sig (Elt Ideal)) : Prop where
  rows (t : Fin 256) (b : Fin 8) (d : Fin 256) : V (Proc.devRef .tc main_v5_0) (ix3 t b d) = ((w b t d : ℝ) : EReal)
  dx (n : Fin 1024) (d : Fin 256) : V (Proc.devRef .tc main_v5_1) (ix2 n d) = ((W.dx n d : ℝ) : EReal)
  decay : V (Proc.devRef .tc main_v5_2) ix0 = ((decayR : ℝ) : EReal)
  dy (n : Fin 1024) (d : Fin 256) : V (Proc.devRef .tc main_v5_3) (ix2 n d) = ((W.dy n d : ℝ) : EReal)
  e (d : Fin 256) (n : Fin 1024) : V (Proc.devRef .tc main_v5_4) (ix2 d n) = ((W.e d n : ℝ) : EReal)
  counter : V (Proc.devRef .tc main_v5_5) = fun _ => BitVec.ofNat 32 k
  state (b : Fin 8) (n : Fin 1024) : V (Proc.devRef .tc main_v5_6) (ix2 b n) = ((next W (w b) k n : ℝ) : EReal)
  memory (b : Fin 8) (d : Fin 256) (n : Fin 1024) : V (Proc.devRef .tc main_v5_7) (ix3 b d n) = ((mem W (w b) k d n : ℝ) : EReal)
  result (t : Fin 256) (h : (t : ℕ) < k) (b : Fin 8) (d : Fin 256) :
    V (Proc.devRef .tc main_v5_8) (ix3 t b d) = ((out W (w b) t d : ℝ) : EReal)

variable {W : Weights} {w : Fin 8 → ℕ → Fin 256 → ℝ} {k : ℕ} {V : Valuation τ sig (Elt Ideal)}

theorem word_toInt {k : ℕ} (hk : k < 256) : (BitVec.ofNat 32 k).toInt = k := by
  rw [BitVec.toInt_eq_toNat_of_lt] <;> rw [BitVec.toNat_ofNat, Nat.mod_eq_of_lt (by omega)]
  omega

theorem row_eq (h : Carried W w k V) (hk : k < 256) (b : Fin 8) (d : Fin 256) :
    res_main_while0b_v7 V (ix2 b d) = ((w b k d : ℝ) : EReal) := by
  unfold res_main_while0b_v7
  rw [h.counter]
  clean_types
  pointwise
  refine Eq.trans (congrArg _ ?_) (h.rows ⟨k, hk⟩ b d)
  refine (ix3_inj ..).mpr ⟨Fin.ext ?_, Fin.ext ?_, Fin.ext ?_⟩
  · simp [Host.clampedStart, word_toInt hk]; omega
  · simp [Host.clampedStart]
  · simp [Host.clampedStart]

theorem moved_eq (h : Carried W w k V) (hk : k < 256) (b : Fin 8) (n : Fin 1024) :
    res_main_while0b_v13 V (ix2 b n) = ((decayR * next W (w b) k n + W.update (w b k) n : ℝ) : EReal) := by
  unfold res_main_while0b_v13
  clean_types
  pointwise
  simp only [h.decay, h.state, row_eq h hk, h.dx, ← EReal.coe_mul, sum_coe, max_zero_coe, ← EReal.coe_add]
  rfl

theorem state_eq (h : Carried W w k V) (hk : k < 256) (b : Fin 8) (n : Fin 1024) :
    res_main_while0b_v20 V (ix2 b n) = ((next W (w b) (k + 1) n : ℝ) : EReal) := by
  unfold res_main_while0b_v20
  clean_types
  pointwise
  simp only [moved_eq h hk, Ideal.absf_def, abs_coe, sum_coe, ofBits_floor, max_coe]
  rw [div_coe _ (lt_of_lt_of_le floor_pos (le_max_right _ _)).ne']
  rfl

theorem recall_eq (h : Carried W w k V) (hk : k < 256) (b : Fin 8) (d : Fin 256) :
    res_main_while0b_v21 V (ix2 b d) = ((recall W (w b) k d : ℝ) : EReal) := by
  unfold res_main_while0b_v21
  clean_types
  pointwise
  simp only [state_eq h hk, h.memory, ← EReal.coe_mul, sum_coe]
  rfl

theorem emit_eq (h : Carried W w k V) (hk : k < 256) (b : Fin 8) (d : Fin 256) :
    res_main_while0b_v46 V (ix2 b d) = ((W.emit (recall W (w b) k) (next W (w b) (k + 1)) d : ℝ) : EReal) := by
  unfold res_main_while0b_v46 res_main_while0b_v27 res_main_while0b_v25
  clean_types
  pointwise
  simp only [recall_eq h hk, state_eq h hk, ← EReal.coe_sub, ← EReal.coe_mul, sum_coe, width_coe, rsqrt_var_coe, h.dy, h.e, ← EReal.coe_mul, sum_coe,
    max_zero_coe, max_eq_left (next_nonneg W (w b) (k + 1) _)]
  rfl

theorem counter_next (h : Carried W w k V) : STEP V (Proc.devRef .tc main_v5_5) = fun _ => BitVec.ofNat 32 (k + 1) := by
  rw [STEP_main_v5_5]
  unfold step_main_v5_5
  rw [h.counter]
  funext i
  exact (BitVec.ofNat_add k 1).symm

theorem memory_next (h : Carried W w k V) (hk : k < 256) (b : Fin 8) (d : Fin 256) (n : Fin 1024) :
    STEP V (Proc.devRef .tc main_v5_7) (ix3 b d n) = ((mem W (w b) (k + 1) d n : ℝ) : EReal) := by
  rw [STEP_main_v5_7]
  unfold step_main_v5_7 res_main_while0b_v72 res_main_while0b_v70
  clean_types
  simp only [id_eq]
  pointwise
  simp only [row_eq h hk, state_eq h hk, h.decay, h.memory, ← EReal.coe_sub, ← EReal.coe_mul, sum_coe, width_coe, rsqrt_var_coe, ← EReal.coe_mul,
    ← EReal.coe_add]
  rfl

/-- One row written into the stack of rows at row `k`. -/
theorem write_row {α : Type} (hk : k < 256) (x : S256x8x256.Idx → α) (u : S1x8x256.Idx → α) (t : Fin 256) (b : Fin 8) (d : Fin 256) :
    Host.dynamicUpdateSlice x u (fun a => (((![fun _ => BitVec.ofNat 32 k, constantI S_ 32 0#32, constantI S_ 32 0#32] :
        Fin 3 → (S_.Idx → BitVec 32))) a (Shape.Idx.first h_S_)).toInt) updateFits_S256x8x256_S1x8x256 (ix3 t b d)
      = if (t : ℕ) = k then u (ix3 0 b d) else x (ix3 t b d) := by
  pointwise
  by_cases ht : (t : ℕ) = k
  · rw [if_pos ht, dif_pos (by simp [Host.clampedStart, word_toInt hk]; omega)]
    exact congrArg u ((ix3_inj ..).mpr ⟨Subsingleton.elim _ _, Fin.ext (by simp [Host.clampedStart]), Fin.ext (by simp [Host.clampedStart])⟩)
  · rw [if_neg ht, dif_neg (by simp [Host.clampedStart, word_toInt hk]; omega)]

theorem result_next (h : Carried W w k V) (hk : k < 256) (t : Fin 256) (ht : (t : ℕ) < k + 1) (b : Fin 8) (d : Fin 256) :
    STEP V (Proc.devRef .tc main_v5_8) (ix3 t b d) = ((out W (w b) t d : ℝ) : EReal) := by
  rw [STEP_main_v5_8]
  unfold step_main_v5_8 res_main_while0b_v52 res_main_while0b_v50
  rw [h.counter]
  clean_types
  simp only [id_eq]
  refine (write_row hk _ _ t b d).trans ?_
  by_cases htk : (t : ℕ) = k
  · rw [if_pos htk]
    pointwise
    simp only [emit_eq h hk, ← EReal.coe_sub, ← EReal.coe_mul, sum_coe, width_coe, rsqrt_var_coe, htk]
    rfl
  · rw [if_neg htk]
    exact h.result t (by omega) b d

theorem carried_next (h : Carried W w k V) (hk : k < 256) : Carried W w (k + 1) (STEP V) where
  rows t b d := by rw [STEP_main_v5_0]; exact h.rows t b d
  dx n d := by rw [STEP_main_v5_1]; exact h.dx n d
  decay := by rw [STEP_main_v5_2]; exact h.decay
  dy n d := by rw [STEP_main_v5_3]; exact h.dy n d
  e d n := by rw [STEP_main_v5_4]; exact h.e d n
  counter := counter_next h
  state b n := by rw [STEP_main_v5_6]; exact state_eq h hk b n
  memory b d n := memory_next h hk b d n
  result t ht b d := result_next h hk t ht b d

theorem carried_iter (h : Carried W w 0 V) : ∀ k ≤ 256, Carried W w k (STEP^[k] V)
  | 0, _ => h
  | k + 1, hk => by
    rw [Function.iterate_succ_apply']
    exact carried_next (carried_iter h k (by omega)) (by omega)

/-! ## The loop's entry -/

variable (m : (ℓ : Loc nD τ sig) → Buf (Elt Ideal) ℓ) (c : Dev nD)

theorem carried_entry (hv : ∀ (b : Fin 8) (t d : Fin 256), m ((c.tc : Thread nD τ).loc main_arg0) (ix3 b t d) = ((w b t d : ℝ) : EReal))
    (he : ∀ (d : Fin 256) (n : Fin 1024), m ((c.tc : Thread nD τ).loc main_arg1) (ix2 d n) = ((W.e d n : ℝ) : EReal))
    (hx : ∀ (n : Fin 1024) (d : Fin 256), m ((c.tc : Thread nD τ).loc main_arg2) (ix2 n d) = ((W.dx n d : ℝ) : EReal))
    (hy : ∀ (n : Fin 1024) (d : Fin 256), m ((c.tc : Thread nD τ).loc main_arg3) (ix2 n d) = ((W.dy n d : ℝ) : EReal)) :
    Carried W w 0 (entryContents preI m c) where
  rows t b d := by
    simp only [entryContents, afterL_cons, afterL_nil]
    after_reads_simp
    clean_types
    simp only [id_eq]
    pointwise
    exact hv b t d
  dx n d := by
    simp only [entryContents, afterL_cons, afterL_nil]
    after_reads_simp
    exact hx n d
  decay := by
    simp only [entryContents, afterL_cons, afterL_nil]
    after_reads_simp
    clean_types
    simp only [id_eq]
    pointwise
    rw [ofBits_97, ofBits_100, div_coe _ (by norm_num)]
    rfl
  dy n d := by
    simp only [entryContents, afterL_cons, afterL_nil]
    after_reads_simp
    exact hy n d
  e d n := by
    simp only [entryContents, afterL_cons, afterL_nil]
    after_reads_simp
    exact he d n
  counter := ctr_entry m c
  state b n := by
    simp only [entryContents, afterL_cons, afterL_nil]
    after_reads_simp
    clean_types
    simp only [id_eq]
    pointwise
    rfl
  memory b d n := by
    simp only [entryContents, afterL_cons, afterL_nil]
    after_reads_simp
    clean_types
    simp only [id_eq]
    pointwise
    rfl
  result t ht := absurd ht (Nat.not_lt_zero _)

/-- The reference's result. -/
theorem result_eq (hv : ∀ (b : Fin 8) (t d : Fin 256), m ((c.tc : Thread nD τ).loc main_arg0) (ix3 b t d) = ((w b t d : ℝ) : EReal))
    (he : ∀ (d : Fin 256) (n : Fin 1024), m ((c.tc : Thread nD τ).loc main_arg1) (ix2 d n) = ((W.e d n : ℝ) : EReal))
    (hx : ∀ (n : Fin 1024) (d : Fin 256), m ((c.tc : Thread nD τ).loc main_arg2) (ix2 n d) = ((W.dx n d : ℝ) : EReal))
    (hy : ∀ (n : Fin 1024) (d : Fin 256), m ((c.tc : Thread nD τ).loc main_arg3) (ix2 n d) = ((W.dy n d : ℝ) : EReal))
    (b : Fin 8) (t d : Fin 256) :
    out_main_v6 (STEP^[256] (entryContents preI m c)) (ix3 b t d) = ((out W (w b) t d : ℝ) : EReal) := by
  unfold out_main_v6
  clean_types
  pointwise
  exact (carried_iter (carried_entry m c hv he hx hy) 256 le_rfl).result t t.isLt b d

end Cert.ReferenceIdeal.Hand

end
-- ==== Proof.Algebraic.lean ====
/-
  The algebraic claim: of finite arguments the idealized kernel and the reference end with the same result, the specification's rows
  of the arguments' real values.
-/
module

public import proofs.«01_k».proof.Defs
public import proofs.«01_k».proof.Proof.KernelRun
public import proofs.«01_k».proof.Proof.Reference
public import proofs.«01_k».proof.Proof.Gen.Pre_finite

@[expose] public section

set_option maxRecDepth 16384

noncomputable section

namespace Cert.Proof

open Idealize.ShloMosaic Idealize.ShloMosaic.TcCoe Idealize.SL.Sem

theorem ofBits_infinity : Ideal.ofBits .f32 0x7F800000#32 = ⊤ := by
  simp [Ideal.ofBits, Ideal.ieee]

/-- A number whose magnitude compares below infinity is its real value. -/
theorem coe_of_finite {x : EReal} (h : max x (-x) < ⊤) : x = ((x.toReal : ℝ) : EReal) := by
  refine (EReal.coe_toReal ?_ ?_).symm
  · rintro rfl; simp at h
  · rintro rfl; simp at h

section
variable (v : FVec Ideal Cert.KernelIdeal.S8x256x256 .f32) (e : FVec Ideal Cert.KernelIdeal.S256x1024 .f32)
  (dx dy : FVec Ideal Cert.KernelIdeal.S1024x256 .f32)

/-- The real rows of the inputs. -/
def rowsOf (b : Fin 8) (t : ℕ) (d : Fin 256) : ℝ := if h : t < 256 then (v (ix3 b ⟨t, h⟩ d)).toReal else 0

/-- The real weights. -/
def weightsOf : Weights where
  dx n d := (dx (ix2 n d)).toReal
  dy n d := (dy (ix2 n d)).toReal
  e d n := (e (ix2 d n)).toReal

/-- The result both programs end with. -/
def resultOf : FVec Ideal Cert.KernelIdeal.S8x256x256 .f32 := fun j =>
  ((out (weightsOf e dx dy) (rowsOf v (j 0)) (j 1 : Fin 256) (j 2) : ℝ) : EReal)
end

/-- An array whose magnitudes all compare below infinity holds its real values. -/
theorem coe_of_finites {s : Shape} {x : FVec Ideal s .f32} {hb}
    (h : cmpf .olt (Host.absf x) (broadcastInDim s ![] hb (constant Cert.Pre_finite.S_ .f32 0x7F800000#32)) = fun _ => 1#1) (i : s.Idx) :
    x i = (((x i).toReal : ℝ) : EReal) := by
  have h1 : BitVec.ofBool (decide (max (x i) (-(x i)) < Ideal.ofBits .f32 0x7F800000#32)) = 1#1 := congrFun h i
  rw [ofBits_infinity] at h1
  refine coe_of_finite ?_
  by_contra hn
  rw [decide_eq_false hn] at h1
  exact absurd h1 (by decide)

section
variable {v : FVec Ideal Cert.KernelIdeal.S8x256x256 .f32} {e : FVec Ideal Cert.KernelIdeal.S256x1024 .f32}
  {dx dy : FVec Ideal Cert.KernelIdeal.S1024x256 .f32}

/-- What the precondition gives: the arguments are casts of their real rows and weights. -/
theorem reals_of_finite
    (h : (Cert.Pre_finite.fn (F := Ideal) v e dx dy).1 = (fun _ => 1#1) ∧ (Cert.Pre_finite.fn (F := Ideal) v e dx dy).2.1 = (fun _ => 1#1)
      ∧ (Cert.Pre_finite.fn (F := Ideal) v e dx dy).2.2.1 = (fun _ => 1#1) ∧ (Cert.Pre_finite.fn (F := Ideal) v e dx dy).2.2.2 = (fun _ => 1#1)) :
    (∀ (b : Fin 8) (t d : Fin 256), v (ix3 b t d) = ((rowsOf v b t d : ℝ) : EReal))
      ∧ (∀ (d : Fin 256) (n : Fin 1024), e (ix2 d n) = (((weightsOf e dx dy).e d n : ℝ) : EReal))
      ∧ (∀ (n : Fin 1024) (d : Fin 256), dx (ix2 n d) = (((weightsOf e dx dy).dx n d : ℝ) : EReal))
      ∧ (∀ (n : Fin 1024) (d : Fin 256), dy (ix2 n d) = (((weightsOf e dx dy).dy n d : ℝ) : EReal)) :=
  ⟨fun b t d => (coe_of_finites h.1 (ix3 b t d)).trans (by rw [rowsOf, dif_pos t.isLt]), fun d n => coe_of_finites h.2.1 (ix2 d n),
    fun n d => coe_of_finites h.2.2.1 (ix2 n d), fun n d => coe_of_finites h.2.2.2 (ix2 n d)⟩

end

/-- An array with the specification's rows is the result. -/
theorem ext_result {x : FVec Ideal Cert.KernelIdeal.S8x256x256 .f32} {v e dx dy}
    (h : ∀ (b : Fin 8) (t d : Fin 256), x (ix3 b t d) = ((out (weightsOf e dx dy) (rowsOf v b) t d : ℝ) : EReal)) :
    x = resultOf v e dx dy := by
  funext j
  exact (congrArg x (eq_ix3 j)).trans (h (j 0) (j 1) (j 2))

/-- The claim. -/
theorem algebraic : Cert.algebraic_KernelIdeal_ReferenceIdeal_pre_finite := by
  intro m g m' g' hpre harg
  have hr := fun c => reals_of_finite (hpre c)
  refine ⟨fun c => resultOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ⟨?_, Cert.KernelIdeal.Hand.args_kept m h.1 c⟩) (Cert.KernelIdeal.Hand.run_main m g)
    obtain ⟨hv, he, hx, hy⟩ := hr c
    exact ext_result (Cert.KernelIdeal.Hand.array_read m c ((h.1 c).1 1) (Cert.KernelIdeal.Hand.block_packed m c hv he hx hy))
  · refine (θ_run Cert.ReferenceIdeal.defs _ _).mono (fun r h c => ⟨(h c).1.trans ?_, (h c).2⟩) (Cert.ReferenceIdeal.Value.run m' g')
    obtain ⟨hv, he, hx, hy⟩ := hr c
    obtain ⟨a0, a1, a2, a3⟩ := harg c
    exact ext_result (Cert.ReferenceIdeal.Hand.result_eq m' c (fun b t d => (congrFun a0 _).trans (hv b t d)) (fun d n => (congrFun a1 _).trans (he d n))
      (fun n d => (congrFun a2 _).trans (hx n d)) (fun n d => (congrFun a3 _).trans (hy n d)))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts, by
  exact ⟨frame_kernel, frame_kernelIdeal, frame_kernelIdeal_finite, frame_referenceIdeal, frame_referenceIdeal_finite, constants, algebraic⟩⟩

end Cert.Proof

end
